-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![1024, 65536]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![1024, 65536]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S3x2x64x1024 : Shape := ⟨4, ![3, 2, 64, 1024]⟩
abbrev S3x2x16x1024 : Shape := ⟨4, ![3, 2, 16, 1024]⟩
abbrev S2 : Shape := ⟨1, ![2]⟩
abbrev S6x2 : Shape := ⟨2, ![6, 2]⟩
abbrev S128x4096 : Shape := ⟨2, ![128, 4096]⟩
abbrev S128x1024 : Shape := ⟨2, ![128, 1024]⟩
abbrev S_ : Shape := ⟨0, ![]⟩
abbrev S1 : Shape := ⟨1, ![1]⟩
abbrev S1x1 : Shape := ⟨2, ![1, 1]⟩
abbrev S1x1x64x1024 : Shape := ⟨4, ![1, 1, 64, 1024]⟩
abbrev S64x1024 : Shape := ⟨2, ![64, 1024]⟩
abbrev S1x1x16x1024 : Shape := ⟨4, ![1, 1, 16, 1024]⟩
abbrev S16x1024 : Shape := ⟨2, ![16, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x1024, .f32⟩
  | .local _ .vmem, ⟨0, _⟩ => ⟨S1024x4096, .f32⟩
  | .local _ .vmem, ⟨1, _⟩ => ⟨S1024x4096, .f32⟩
  | .local _ .vmem, ⟨2, _⟩ => ⟨S1024x1024, .f32⟩
  | .local _ .vmem, ⟨3, _⟩ => ⟨S3x2x64x1024, .f32⟩
  | .local _ .vmem, ⟨4, _⟩ => ⟨S3x2x64x1024, .f32⟩
  | .local _ .vmem, ⟨5, _⟩ => ⟨S3x2x16x1024, .f32⟩
  | .local _ .vmem, ⟨6, _⟩ => ⟨S3x2x16x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v82 : BitVec 32 := Scalar.muli v29 c128_i32
  let v83 : Index := Scalar.indexCast v82
  let c0 : Index := 0#32
  ![v83.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v82 : BitVec 32 := Scalar.muli v29 c128_i32
  let v89 : Index := Scalar.indexCast v82
  let c0_45 : Index := 0#32
  ![v89.toNat, 0]
def k0_off3 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_46 : BitVec 32 := 128#32
  let v91 : BitVec 32 := Scalar.muli v29 c128_i32_46
  let v92 : BitVec 32 := Scalar.addi c512_i32 v91
  let v93 : Index := Scalar.indexCast v92
  let c0_47 : Index := 0#32
  ![v93.toNat, 0]
def k0_off4 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_46 : BitVec 32 := 128#32
  let v91 : BitVec 32 := Scalar.muli v29 c128_i32_46
  let v92 : BitVec 32 := Scalar.addi c512_i32 v91
  let v99 : Index := Scalar.indexCast v92
  let c0_51 : Index := 0#32
  ![v99.toNat, 0]
def k0_dev1 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_53 : BitVec 32 := 1#32
  let v102 : BitVec 32 := Scalar.muli v42 c1_i32_53
  let v103 : BitVec 32 := Scalar.addi c0_i32_54 v102
  v103.toNat
def k0_dev2 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_56 : BitVec 32 := 1#32
  let v104 : BitVec 32 := Scalar.muli v55 c1_i32_56
  let v105 : BitVec 32 := Scalar.addi c0_i32_57 v104
  v105.toNat
def k0_dev3 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_59 : BitVec 32 := 1#32
  let v106 : BitVec 32 := Scalar.muli v68 c1_i32_59
  let v107 : BitVec 32 := Scalar.addi c0_i32_60 v106
  v107.toNat
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_62 : BitVec 32 := 1#32
  let v108 : BitVec 32 := Scalar.muli v81 c1_i32_62
  let v109 : BitVec 32 := Scalar.addi c0_i32_63 v108
  v109.toNat
def k0_off5 (d0 : Dev nD) (c0_i32_65 : BitVec 32) (c0_i32_73 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v110 : BitVec 32 := Scalar.subi v29 c0_i32_65
  let c4_i32_66 : BitVec 32 := 4#32
  let c0_i32_67 : BitVec 32 := 0#32
  let v111 : BitVec 1 := Scalar.cmpi .eq c4_i32_66 c0_i32_67
  let c1_i32_68 : BitVec 32 := 1#32
  let v112 : BitVec 32 := Scalar.select v111 c1_i32_68 c4_i32_66
  let v113 : BitVec 32 := Scalar.remsi v110 v112
  let c0_i32_70 : BitVec 32 := 0#32
  let v115 : BitVec 1 := Scalar.cmpi .slt v113 c0_i32_70
  let c0_i32_71 : BitVec 32 := 0#32
  let v116 : BitVec 1 := Scalar.cmpi .slt v112 c0_i32_71
  let v117 : BitVec 1 := Scalar.xori v115 v116
  let c0_i32_69 : BitVec 32 := 0#32
  let v114 : BitVec 1 := Scalar.cmpi .ne v113 c0_i32_69
  let v118 : BitVec 1 := Scalar.andi v117 v114
  let v119 : BitVec 32 := Scalar.addi v113 v112
  let v120 : BitVec 32 := Scalar.select v118 v119 v113
  let c128_i32_72 : BitVec 32 := 128#32
  let v121 : BitVec 32 := Scalar.muli v120 c128_i32_72
  let v122 : BitVec 32 := Scalar.addi v121 c0_i32_73
  let c0_i32_83 : BitVec 32 := 0#32
  ![v122.toNat, 0]
def k0_dev5 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_79 : BitVec 32 := 1#32
  let v123 : BitVec 32 := Scalar.muli v42 c1_i32_79
  let v124 : BitVec 32 := Scalar.addi c0_i32_80 v123
  v124.toNat
def k0_off6 (d0 : Dev nD) (c0_i32_84 : BitVec 32) (c0_i32_93 : BitVec 32) : Fin 2 → Nat :=
  let c512_i32_92 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v132 : BitVec 32 := Scalar.addi v29 c0_i32_84
  let c4_i32_85 : BitVec 32 := 4#32
  let c0_i32_86 : BitVec 32 := 0#32
  let v133 : BitVec 1 := Scalar.cmpi .eq c4_i32_85 c0_i32_86
  let c1_i32_87 : BitVec 32 := 1#32
  let v134 : BitVec 32 := Scalar.select v133 c1_i32_87 c4_i32_85
  let v135 : BitVec 32 := Scalar.remsi v132 v134
  let c0_i32_89 : BitVec 32 := 0#32
  let v137 : BitVec 1 := Scalar.cmpi .slt v135 c0_i32_89
  let c0_i32_90 : BitVec 32 := 0#32
  let v138 : BitVec 1 := Scalar.cmpi .slt v134 c0_i32_90
  let v139 : BitVec 1 := Scalar.xori v137 v138
  let c0_i32_88 : BitVec 32 := 0#32
  let v136 : BitVec 1 := Scalar.cmpi .ne v135 c0_i32_88
  let v140 : BitVec 1 := Scalar.andi v139 v136
  let v141 : BitVec 32 := Scalar.addi v135 v134
  let v142 : BitVec 32 := Scalar.select v140 v141 v135
  let c128_i32_91 : BitVec 32 := 128#32
  let v143 : BitVec 32 := Scalar.muli v142 c128_i32_91
  let v144 : BitVec 32 := Scalar.addi c512_i32_92 v143
  let v145 : BitVec 32 := Scalar.addi v144 c0_i32_93
  let c0_i32_103 : BitVec 32 := 0#32
  ![v145.toNat, 0]
def k0_dev6 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_99 : BitVec 32 := 1#32
  let v146 : BitVec 32 := Scalar.muli v55 c1_i32_99
  let v147 : BitVec 32 := Scalar.addi c0_i32_100 v146
  v147.toNat
def k0_dev7 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_117 : BitVec 32 := 1#32
  let v168 : BitVec 32 := Scalar.muli v42 c1_i32_117
  let v169 : BitVec 32 := Scalar.addi c0_i32_118 v168
  v169.toNat
def k0_dev8 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_137 : BitVec 32 := 1#32
  let v191 : BitVec 32 := Scalar.muli v55 c1_i32_137
  let v192 : BitVec 32 := Scalar.addi c0_i32_138 v191
  v192.toNat
def k0_off7 (d0 : Dev nD) (c0_i32_142 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v200 : BitVec 32 := Scalar.subi v29 c0_i32_142
  let c1_i32_143 : BitVec 32 := 1#32
  let v201 : BitVec 32 := Scalar.subi v200 c1_i32_143
  let c4_i32_144 : BitVec 32 := 4#32
  let c0_i32_145 : BitVec 32 := 0#32
  let v202 : BitVec 1 := Scalar.cmpi .eq c4_i32_144 c0_i32_145
  let c1_i32_146 : BitVec 32 := 1#32
  let v203 : BitVec 32 := Scalar.select v202 c1_i32_146 c4_i32_144
  let v204 : BitVec 32 := Scalar.remsi v201 v203
  let c0_i32_148 : BitVec 32 := 0#32
  let v206 : BitVec 1 := Scalar.cmpi .slt v204 c0_i32_148
  let c0_i32_149 : BitVec 32 := 0#32
  let v207 : BitVec 1 := Scalar.cmpi .slt v203 c0_i32_149
  let v208 : BitVec 1 := Scalar.xori v206 v207
  let c0_i32_147 : BitVec 32 := 0#32
  let v205 : BitVec 1 := Scalar.cmpi .ne v204 c0_i32_147
  let v209 : BitVec 1 := Scalar.andi v208 v205
  let v210 : BitVec 32 := Scalar.addi v204 v203
  let v211 : BitVec 32 := Scalar.select v209 v210 v204
  let c128_i32_150 : BitVec 32 := 128#32
  let v212 : BitVec 32 := Scalar.muli v211 c128_i32_150
  let v213 : Index := Scalar.indexCast v212
  let c0_151 : Index := 0#32
  ![v213.toNat, 0]
def k0_off8 (d0 : Dev nD) (c0_i32_142 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v200 : BitVec 32 := Scalar.subi v29 c0_i32_142
  let c1_i32_143 : BitVec 32 := 1#32
  let v201 : BitVec 32 := Scalar.subi v200 c1_i32_143
  let c4_i32_144 : BitVec 32 := 4#32
  let c0_i32_145 : BitVec 32 := 0#32
  let v202 : BitVec 1 := Scalar.cmpi .eq c4_i32_144 c0_i32_145
  let c1_i32_146 : BitVec 32 := 1#32
  let v203 : BitVec 32 := Scalar.select v202 c1_i32_146 c4_i32_144
  let v204 : BitVec 32 := Scalar.remsi v201 v203
  let c0_i32_148 : BitVec 32 := 0#32
  let v206 : BitVec 1 := Scalar.cmpi .slt v204 c0_i32_148
  let c0_i32_149 : BitVec 32 := 0#32
  let v207 : BitVec 1 := Scalar.cmpi .slt v203 c0_i32_149
  let v208 : BitVec 1 := Scalar.xori v206 v207
  let c0_i32_147 : BitVec 32 := 0#32
  let v205 : BitVec 1 := Scalar.cmpi .ne v204 c0_i32_147
  let v209 : BitVec 1 := Scalar.andi v208 v205
  let v210 : BitVec 32 := Scalar.addi v204 v203
  let v211 : BitVec 32 := Scalar.select v209 v210 v204
  let c128_i32_150 : BitVec 32 := 128#32
  let v212 : BitVec 32 := Scalar.muli v211 c128_i32_150
  let v219 : Index := Scalar.indexCast v212
  let c0_155 : Index := 0#32
  ![v219.toNat, 0]
def k0_off9 (d0 : Dev nD) (c0_i32_156 : BitVec 32) : Fin 2 → Nat :=
  let c512_i32_165 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v221 : BitVec 32 := Scalar.addi v29 c0_i32_156
  let c1_i32_157 : BitVec 32 := 1#32
  let v222 : BitVec 32 := Scalar.addi v221 c1_i32_157
  let c4_i32_158 : BitVec 32 := 4#32
  let c0_i32_159 : BitVec 32 := 0#32
  let v223 : BitVec 1 := Scalar.cmpi .eq c4_i32_158 c0_i32_159
  let c1_i32_160 : BitVec 32 := 1#32
  let v224 : BitVec 32 := Scalar.select v223 c1_i32_160 c4_i32_158
  let v225 : BitVec 32 := Scalar.remsi v222 v224
  let c0_i32_162 : BitVec 32 := 0#32
  let v227 : BitVec 1 := Scalar.cmpi .slt v225 c0_i32_162
  let c0_i32_163 : BitVec 32 := 0#32
  let v228 : BitVec 1 := Scalar.cmpi .slt v224 c0_i32_163
  let v229 : BitVec 1 := Scalar.xori v227 v228
  let c0_i32_161 : BitVec 32 := 0#32
  let v226 : BitVec 1 := Scalar.cmpi .ne v225 c0_i32_161
  let v230 : BitVec 1 := Scalar.andi v229 v226
  let v231 : BitVec 32 := Scalar.addi v225 v224
  let v232 : BitVec 32 := Scalar.select v230 v231 v225
  let c128_i32_164 : BitVec 32 := 128#32
  let v233 : BitVec 32 := Scalar.muli v232 c128_i32_164
  let v234 : BitVec 32 := Scalar.addi c512_i32_165 v233
  let v235 : Index := Scalar.indexCast v234
  let c0_166 : Index := 0#32
  ![v235.toNat, 0]
def k0_off10 (d0 : Dev nD) (c0_i32_156 : BitVec 32) : Fin 2 → Nat :=
  let c512_i32_165 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v221 : BitVec 32 := Scalar.addi v29 c0_i32_156
  let c1_i32_157 : BitVec 32 := 1#32
  let v222 : BitVec 32 := Scalar.addi v221 c1_i32_157
  let c4_i32_158 : BitVec 32 := 4#32
  let c0_i32_159 : BitVec 32 := 0#32
  let v223 : BitVec 1 := Scalar.cmpi .eq c4_i32_158 c0_i32_159
  let c1_i32_160 : BitVec 32 := 1#32
  let v224 : BitVec 32 := Scalar.select v223 c1_i32_160 c4_i32_158
  let v225 : BitVec 32 := Scalar.remsi v222 v224
  let c0_i32_162 : BitVec 32 := 0#32
  let v227 : BitVec 1 := Scalar.cmpi .slt v225 c0_i32_162
  let c0_i32_163 : BitVec 32 := 0#32
  let v228 : BitVec 1 := Scalar.cmpi .slt v224 c0_i32_163
  let v229 : BitVec 1 := Scalar.xori v227 v228
  let c0_i32_161 : BitVec 32 := 0#32
  let v226 : BitVec 1 := Scalar.cmpi .ne v225 c0_i32_161
  let v230 : BitVec 1 := Scalar.andi v229 v226
  let v231 : BitVec 32 := Scalar.addi v225 v224
  let v232 : BitVec 32 := Scalar.select v230 v231 v225
  let c128_i32_164 : BitVec 32 := 128#32
  let v233 : BitVec 32 := Scalar.muli v232 c128_i32_164
  let v234 : BitVec 32 := Scalar.addi c512_i32_165 v233
  let v241 : Index := Scalar.indexCast v234
  let c0_170 : Index := 0#32
  ![v241.toNat, 0]
def k0_off11 (d0 : Dev nD) (c0_i32_181 : BitVec 32) (c0_i32_190 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v250 : BitVec 32 := Scalar.subi v29 c0_i32_181
  let c1_i32_182 : BitVec 32 := 1#32
  let v251 : BitVec 32 := Scalar.subi v250 c1_i32_182
  let c4_i32_183 : BitVec 32 := 4#32
  let c0_i32_184 : BitVec 32 := 0#32
  let v252 : BitVec 1 := Scalar.cmpi .eq c4_i32_183 c0_i32_184
  let c1_i32_185 : BitVec 32 := 1#32
  let v253 : BitVec 32 := Scalar.select v252 c1_i32_185 c4_i32_183
  let v254 : BitVec 32 := Scalar.remsi v251 v253
  let c0_i32_187 : BitVec 32 := 0#32
  let v256 : BitVec 1 := Scalar.cmpi .slt v254 c0_i32_187
  let c0_i32_188 : BitVec 32 := 0#32
  let v257 : BitVec 1 := Scalar.cmpi .slt v253 c0_i32_188
  let v258 : BitVec 1 := Scalar.xori v256 v257
  let c0_i32_186 : BitVec 32 := 0#32
  let v255 : BitVec 1 := Scalar.cmpi .ne v254 c0_i32_186
  let v259 : BitVec 1 := Scalar.andi v258 v255
  let v260 : BitVec 32 := Scalar.addi v254 v253
  let v261 : BitVec 32 := Scalar.select v259 v260 v254
  let c128_i32_189 : BitVec 32 := 128#32
  let v262 : BitVec 32 := Scalar.muli v261 c128_i32_189
  let v263 : BitVec 32 := Scalar.addi v262 c0_i32_190
  let v264 : Index := Scalar.indexCast v263
  let c0_191 : Index := 0#32
  ![v264.toNat, 0]
def k0_dev9 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_220 : BitVec 32 := 1#32
  let v290 : BitVec 32 := Scalar.muli v42 c1_i32_220
  let v291 : BitVec 32 := Scalar.addi c0_i32_221 v290
  v291.toNat
def k0_off12 (d0 : Dev nD) (c0_i32_235 : BitVec 32) (c0_i32_245 : BitVec 32) : Fin 2 → Nat :=
  let c512_i32_244 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v306 : BitVec 32 := Scalar.addi v29 c0_i32_235
  let c1_i32_236 : BitVec 32 := 1#32
  let v307 : BitVec 32 := Scalar.addi v306 c1_i32_236
  let c4_i32_237 : BitVec 32 := 4#32
  let c0_i32_238 : BitVec 32 := 0#32
  let v308 : BitVec 1 := Scalar.cmpi .eq c4_i32_237 c0_i32_238
  let c1_i32_239 : BitVec 32 := 1#32
  let v309 : BitVec 32 := Scalar.select v308 c1_i32_239 c4_i32_237
  let v310 : BitVec 32 := Scalar.remsi v307 v309
  let c0_i32_241 : BitVec 32 := 0#32
  let v312 : BitVec 1 := Scalar.cmpi .slt v310 c0_i32_241
  let c0_i32_242 : BitVec 32 := 0#32
  let v313 : BitVec 1 := Scalar.cmpi .slt v309 c0_i32_242
  let v314 : BitVec 1 := Scalar.xori v312 v313
  let c0_i32_240 : BitVec 32 := 0#32
  let v311 : BitVec 1 := Scalar.cmpi .ne v310 c0_i32_240
  let v315 : BitVec 1 := Scalar.andi v314 v311
  let v316 : BitVec 32 := Scalar.addi v310 v309
  let v317 : BitVec 32 := Scalar.select v315 v316 v310
  let c128_i32_243 : BitVec 32 := 128#32
  let v318 : BitVec 32 := Scalar.muli v317 c128_i32_243
  let v319 : BitVec 32 := Scalar.addi c512_i32_244 v318
  let v320 : BitVec 32 := Scalar.addi v319 c0_i32_245
  let v321 : Index := Scalar.indexCast v320
  let c0_246 : Index := 0#32
  ![v321.toNat, 0]
def k0_dev10 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_276 : BitVec 32 := 1#32
  let v348 : BitVec 32 := Scalar.muli v55 c1_i32_276
  let v349 : BitVec 32 := Scalar.addi c0_i32_277 v348
  v349.toNat
def k0_dev11 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_329 : BitVec 32 := 1#32
  let v404 : BitVec 32 := Scalar.muli v42 c1_i32_329
  let v405 : BitVec 32 := Scalar.addi c0_i32_330 v404
  v405.toNat
def k0_dev12 (d0 : Dev nD) : Nat :=
  let c0_i32_386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_385 : BitVec 32 := 1#32
  let v462 : BitVec 32 := Scalar.muli v55 c1_i32_385
  let v463 : BitVec 32 := Scalar.addi c0_i32_386 v462
  v463.toNat
def k0_dev13 (d0 : Dev nD) : Nat :=
  let c0_i32_468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_467 : BitVec 32 := 1#32
  let v561 : BitVec 32 := Scalar.muli v42 c1_i32_467
  let v562 : BitVec 32 := Scalar.addi c0_i32_468 v561
  v562.toNat
def k0_dev14 (d0 : Dev nD) : Nat :=
  let c0_i32_524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_523 : BitVec 32 := 1#32
  let v619 : BitVec 32 := Scalar.muli v55 c1_i32_523
  let v620 : BitVec 32 := Scalar.addi c0_i32_524 v619
  v620.toNat
def k0_dev15 (d0 : Dev nD) : Nat :=
  let c0_i32_578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_577 : BitVec 32 := 1#32
  let v675 : BitVec 32 := Scalar.muli v42 c1_i32_577
  let v676 : BitVec 32 := Scalar.addi c0_i32_578 v675
  v676.toNat
def k0_dev16 (d0 : Dev nD) : Nat :=
  let c0_i32_634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_633 : BitVec 32 := 1#32
  let v733 : BitVec 32 := Scalar.muli v55 c1_i32_633
  let v734 : BitVec 32 := Scalar.addi c0_i32_634 v733
  v734.toNat
def k0_off13 (d0 : Dev nD) (c0_i32_825 : BitVec 32) (c0_i32_832 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_808 : BitVec 32 := 1#32
  let v923 : BitVec 32 := Scalar.addi v29 c1_i32_808
  let c4_i32_809 : BitVec 32 := 4#32
  let c0_i32_810 : BitVec 32 := 0#32
  let v924 : BitVec 1 := Scalar.cmpi .eq c4_i32_809 c0_i32_810
  let c1_i32_811 : BitVec 32 := 1#32
  let v925 : BitVec 32 := Scalar.select v924 c1_i32_811 c4_i32_809
  let v926 : BitVec 32 := Scalar.remsi v923 v925
  let c0_i32_813 : BitVec 32 := 0#32
  let v928 : BitVec 1 := Scalar.cmpi .slt v926 c0_i32_813
  let c0_i32_814 : BitVec 32 := 0#32
  let v929 : BitVec 1 := Scalar.cmpi .slt v925 c0_i32_814
  let v930 : BitVec 1 := Scalar.xori v928 v929
  let c0_i32_812 : BitVec 32 := 0#32
  let v927 : BitVec 1 := Scalar.cmpi .ne v926 c0_i32_812
  let v931 : BitVec 1 := Scalar.andi v930 v927
  let v932 : BitVec 32 := Scalar.addi v926 v925
  let v933 : BitVec 32 := Scalar.select v931 v932 v926
  let c128_i32_815 : BitVec 32 := 128#32
  let v934 : BitVec 32 := Scalar.muli v933 c128_i32_815
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v948 : BitVec 32 := Scalar.subi v19 c0_i32_825
  let c4_i32_826 : BitVec 32 := 4#32
  let c0_i32_827 : BitVec 32 := 0#32
  let v949 : BitVec 1 := Scalar.cmpi .eq c4_i32_826 c0_i32_827
  let c1_i32_828 : BitVec 32 := 1#32
  let v950 : BitVec 32 := Scalar.select v949 c1_i32_828 c4_i32_826
  let v951 : BitVec 32 := Scalar.remsi v948 v950
  let c0_i32_830 : BitVec 32 := 0#32
  let v953 : BitVec 1 := Scalar.cmpi .slt v951 c0_i32_830
  let c0_i32_831 : BitVec 32 := 0#32
  let v954 : BitVec 1 := Scalar.cmpi .slt v950 c0_i32_831
  let v955 : BitVec 1 := Scalar.xori v953 v954
  let c0_i32_829 : BitVec 32 := 0#32
  let v952 : BitVec 1 := Scalar.cmpi .ne v951 c0_i32_829
  let v956 : BitVec 1 := Scalar.andi v955 v952
  let v957 : BitVec 32 := Scalar.addi v951 v950
  let v958 : BitVec 32 := Scalar.select v956 v957 v951
  let c32_i32 : BitVec 32 := 32#32
  let v959 : BitVec 32 := Scalar.muli v958 c32_i32
  let v960 : BitVec 32 := Scalar.addi v934 v959
  let v961 : BitVec 32 := Scalar.addi v960 c0_i32_832
  let c0_i32_842 : BitVec 32 := 0#32
  ![v961.toNat, 0]
def k0_dev17 (d0 : Dev nD) : Nat :=
  let c0_i32_839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_838 : BitVec 32 := 1#32
  let v962 : BitVec 32 := Scalar.muli v68 c1_i32_838
  let v963 : BitVec 32 := Scalar.addi c0_i32_839 v962
  v963.toNat
def k0_off14 (d0 : Dev nD) (c0_i32_843 : BitVec 32) (c0_i32_851 : BitVec 32) : Fin 2 → Nat :=
  let c512_i32_824 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_816 : BitVec 32 := 1#32
  let v935 : BitVec 32 := Scalar.subi v29 c1_i32_816
  let c4_i32_817 : BitVec 32 := 4#32
  let c0_i32_818 : BitVec 32 := 0#32
  let v936 : BitVec 1 := Scalar.cmpi .eq c4_i32_817 c0_i32_818
  let c1_i32_819 : BitVec 32 := 1#32
  let v937 : BitVec 32 := Scalar.select v936 c1_i32_819 c4_i32_817
  let v938 : BitVec 32 := Scalar.remsi v935 v937
  let c0_i32_821 : BitVec 32 := 0#32
  let v940 : BitVec 1 := Scalar.cmpi .slt v938 c0_i32_821
  let c0_i32_822 : BitVec 32 := 0#32
  let v941 : BitVec 1 := Scalar.cmpi .slt v937 c0_i32_822
  let v942 : BitVec 1 := Scalar.xori v940 v941
  let c0_i32_820 : BitVec 32 := 0#32
  let v939 : BitVec 1 := Scalar.cmpi .ne v938 c0_i32_820
  let v943 : BitVec 1 := Scalar.andi v942 v939
  let v944 : BitVec 32 := Scalar.addi v938 v937
  let v945 : BitVec 32 := Scalar.select v943 v944 v938
  let c128_i32_823 : BitVec 32 := 128#32
  let v946 : BitVec 32 := Scalar.muli v945 c128_i32_823
  let v947 : BitVec 32 := Scalar.addi c512_i32_824 v946
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v971 : BitVec 32 := Scalar.addi v19 c0_i32_843
  let c4_i32_844 : BitVec 32 := 4#32
  let c0_i32_845 : BitVec 32 := 0#32
  let v972 : BitVec 1 := Scalar.cmpi .eq c4_i32_844 c0_i32_845
  let c1_i32_846 : BitVec 32 := 1#32
  let v973 : BitVec 32 := Scalar.select v972 c1_i32_846 c4_i32_844
  let v974 : BitVec 32 := Scalar.remsi v971 v973
  let c0_i32_848 : BitVec 32 := 0#32
  let v976 : BitVec 1 := Scalar.cmpi .slt v974 c0_i32_848
  let c0_i32_849 : BitVec 32 := 0#32
  let v977 : BitVec 1 := Scalar.cmpi .slt v973 c0_i32_849
  let v978 : BitVec 1 := Scalar.xori v976 v977
  let c0_i32_847 : BitVec 32 := 0#32
  let v975 : BitVec 1 := Scalar.cmpi .ne v974 c0_i32_847
  let v979 : BitVec 1 := Scalar.andi v978 v975
  let v980 : BitVec 32 := Scalar.addi v974 v973
  let v981 : BitVec 32 := Scalar.select v979 v980 v974
  let c32_i32_850 : BitVec 32 := 32#32
  let v982 : BitVec 32 := Scalar.muli v981 c32_i32_850
  let v983 : BitVec 32 := Scalar.addi v947 v982
  let v984 : BitVec 32 := Scalar.addi v983 c0_i32_851
  let c0_i32_861 : BitVec 32 := 0#32
  ![v984.toNat, 0]
def k0_dev18 (d0 : Dev nD) : Nat :=
  let c0_i32_858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_857 : BitVec 32 := 1#32
  let v985 : BitVec 32 := Scalar.muli v81 c1_i32_857
  let v986 : BitVec 32 := Scalar.addi c0_i32_858 v985
  v986.toNat
def k0_dev19 (d0 : Dev nD) : Nat :=
  let c0_i32_877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_876 : BitVec 32 := 1#32
  let v1008 : BitVec 32 := Scalar.muli v68 c1_i32_876
  let v1009 : BitVec 32 := Scalar.addi c0_i32_877 v1008
  v1009.toNat
def k0_dev20 (d0 : Dev nD) : Nat :=
  let c0_i32_896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_895 : BitVec 32 := 1#32
  let v1031 : BitVec 32 := Scalar.muli v81 c1_i32_895
  let v1032 : BitVec 32 := Scalar.addi c0_i32_896 v1031
  v1032.toNat
def k0_off15 (d0 : Dev nD) (c0_i32_910 : BitVec 32) (c0_i32_919 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_808 : BitVec 32 := 1#32
  let v923 : BitVec 32 := Scalar.addi v29 c1_i32_808
  let c4_i32_809 : BitVec 32 := 4#32
  let c0_i32_810 : BitVec 32 := 0#32
  let v924 : BitVec 1 := Scalar.cmpi .eq c4_i32_809 c0_i32_810
  let c1_i32_811 : BitVec 32 := 1#32
  let v925 : BitVec 32 := Scalar.select v924 c1_i32_811 c4_i32_809
  let v926 : BitVec 32 := Scalar.remsi v923 v925
  let c0_i32_813 : BitVec 32 := 0#32
  let v928 : BitVec 1 := Scalar.cmpi .slt v926 c0_i32_813
  let c0_i32_814 : BitVec 32 := 0#32
  let v929 : BitVec 1 := Scalar.cmpi .slt v925 c0_i32_814
  let v930 : BitVec 1 := Scalar.xori v928 v929
  let c0_i32_812 : BitVec 32 := 0#32
  let v927 : BitVec 1 := Scalar.cmpi .ne v926 c0_i32_812
  let v931 : BitVec 1 := Scalar.andi v930 v927
  let v932 : BitVec 32 := Scalar.addi v926 v925
  let v933 : BitVec 32 := Scalar.select v931 v932 v926
  let c128_i32_815 : BitVec 32 := 128#32
  let v934 : BitVec 32 := Scalar.muli v933 c128_i32_815
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1047 : BitVec 32 := Scalar.subi v19 c0_i32_910
  let c1_i32_911 : BitVec 32 := 1#32
  let v1048 : BitVec 32 := Scalar.subi v1047 c1_i32_911
  let c4_i32_912 : BitVec 32 := 4#32
  let c0_i32_913 : BitVec 32 := 0#32
  let v1049 : BitVec 1 := Scalar.cmpi .eq c4_i32_912 c0_i32_913
  let c1_i32_914 : BitVec 32 := 1#32
  let v1050 : BitVec 32 := Scalar.select v1049 c1_i32_914 c4_i32_912
  let v1051 : BitVec 32 := Scalar.remsi v1048 v1050
  let c0_i32_916 : BitVec 32 := 0#32
  let v1053 : BitVec 1 := Scalar.cmpi .slt v1051 c0_i32_916
  let c0_i32_917 : BitVec 32 := 0#32
  let v1054 : BitVec 1 := Scalar.cmpi .slt v1050 c0_i32_917
  let v1055 : BitVec 1 := Scalar.xori v1053 v1054
  let c0_i32_915 : BitVec 32 := 0#32
  let v1052 : BitVec 1 := Scalar.cmpi .ne v1051 c0_i32_915
  let v1056 : BitVec 1 := Scalar.andi v1055 v1052
  let v1057 : BitVec 32 := Scalar.addi v1051 v1050
  let v1058 : BitVec 32 := Scalar.select v1056 v1057 v1051
  let c32_i32_918 : BitVec 32 := 32#32
  let v1059 : BitVec 32 := Scalar.muli v1058 c32_i32_918
  let v1060 : BitVec 32 := Scalar.addi v934 v1059
  let v1061 : BitVec 32 := Scalar.addi v1060 c0_i32_919
  let v1062 : Index := Scalar.indexCast v1061
  let c0_920 : Index := 0#32
  ![v1062.toNat, 0]
def k0_dev21 (d0 : Dev nD) : Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_949 : BitVec 32 := 1#32
  let v1089 : BitVec 32 := Scalar.muli v68 c1_i32_949
  let v1090 : BitVec 32 := Scalar.addi c0_i32_950 v1089
  v1090.toNat
def k0_off16 (d0 : Dev nD) (c0_i32_964 : BitVec 32) (c0_i32_973 : BitVec 32) : Fin 2 → Nat :=
  let c512_i32_824 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_816 : BitVec 32 := 1#32
  let v935 : BitVec 32 := Scalar.subi v29 c1_i32_816
  let c4_i32_817 : BitVec 32 := 4#32
  let c0_i32_818 : BitVec 32 := 0#32
  let v936 : BitVec 1 := Scalar.cmpi .eq c4_i32_817 c0_i32_818
  let c1_i32_819 : BitVec 32 := 1#32
  let v937 : BitVec 32 := Scalar.select v936 c1_i32_819 c4_i32_817
  let v938 : BitVec 32 := Scalar.remsi v935 v937
  let c0_i32_821 : BitVec 32 := 0#32
  let v940 : BitVec 1 := Scalar.cmpi .slt v938 c0_i32_821
  let c0_i32_822 : BitVec 32 := 0#32
  let v941 : BitVec 1 := Scalar.cmpi .slt v937 c0_i32_822
  let v942 : BitVec 1 := Scalar.xori v940 v941
  let c0_i32_820 : BitVec 32 := 0#32
  let v939 : BitVec 1 := Scalar.cmpi .ne v938 c0_i32_820
  let v943 : BitVec 1 := Scalar.andi v942 v939
  let v944 : BitVec 32 := Scalar.addi v938 v937
  let v945 : BitVec 32 := Scalar.select v943 v944 v938
  let c128_i32_823 : BitVec 32 := 128#32
  let v946 : BitVec 32 := Scalar.muli v945 c128_i32_823
  let v947 : BitVec 32 := Scalar.addi c512_i32_824 v946
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1105 : BitVec 32 := Scalar.addi v19 c0_i32_964
  let c1_i32_965 : BitVec 32 := 1#32
  let v1106 : BitVec 32 := Scalar.addi v1105 c1_i32_965
  let c4_i32_966 : BitVec 32 := 4#32
  let c0_i32_967 : BitVec 32 := 0#32
  let v1107 : BitVec 1 := Scalar.cmpi .eq c4_i32_966 c0_i32_967
  let c1_i32_968 : BitVec 32 := 1#32
  let v1108 : BitVec 32 := Scalar.select v1107 c1_i32_968 c4_i32_966
  let v1109 : BitVec 32 := Scalar.remsi v1106 v1108
  let c0_i32_970 : BitVec 32 := 0#32
  let v1111 : BitVec 1 := Scalar.cmpi .slt v1109 c0_i32_970
  let c0_i32_971 : BitVec 32 := 0#32
  let v1112 : BitVec 1 := Scalar.cmpi .slt v1108 c0_i32_971
  let v1113 : BitVec 1 := Scalar.xori v1111 v1112
  let c0_i32_969 : BitVec 32 := 0#32
  let v1110 : BitVec 1 := Scalar.cmpi .ne v1109 c0_i32_969
  let v1114 : BitVec 1 := Scalar.andi v1113 v1110
  let v1115 : BitVec 32 := Scalar.addi v1109 v1108
  let v1116 : BitVec 32 := Scalar.select v1114 v1115 v1109
  let c32_i32_972 : BitVec 32 := 32#32
  let v1117 : BitVec 32 := Scalar.muli v1116 c32_i32_972
  let v1118 : BitVec 32 := Scalar.addi v947 v1117
  let v1119 : BitVec 32 := Scalar.addi v1118 c0_i32_973
  let v1120 : Index := Scalar.indexCast v1119
  let c0_974 : Index := 0#32
  ![v1120.toNat, 0]
def k0_dev22 (d0 : Dev nD) : Nat :=
  let c0_i32_1004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1003 : BitVec 32 := 1#32
  let v1147 : BitVec 32 := Scalar.muli v81 c1_i32_1003
  let v1148 : BitVec 32 := Scalar.addi c0_i32_1004 v1147
  v1148.toNat
def k0_dev23 (d0 : Dev nD) : Nat :=
  let c0_i32_1058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1057 : BitVec 32 := 1#32
  let v1205 : BitVec 32 := Scalar.muli v68 c1_i32_1057
  let v1206 : BitVec 32 := Scalar.addi c0_i32_1058 v1205
  v1206.toNat
def k0_dev24 (d0 : Dev nD) : Nat :=
  let c0_i32_1112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1111 : BitVec 32 := 1#32
  let v1263 : BitVec 32 := Scalar.muli v81 c1_i32_1111
  let v1264 : BitVec 32 := Scalar.addi c0_i32_1112 v1263
  v1264.toNat
def k0_dev25 (d0 : Dev nD) : Nat :=
  let c0_i32_1166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1165 : BitVec 32 := 1#32
  let v1321 : BitVec 32 := Scalar.muli v68 c1_i32_1165
  let v1322 : BitVec 32 := Scalar.addi c0_i32_1166 v1321
  v1322.toNat
def k0_dev26 (d0 : Dev nD) : Nat :=
  let c0_i32_1220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1219 : BitVec 32 := 1#32
  let v1379 : BitVec 32 := Scalar.muli v81 c1_i32_1219
  let v1380 : BitVec 32 := Scalar.addi c0_i32_1220 v1379
  v1380.toNat
def k0_dev27 (d0 : Dev nD) : Nat :=
  let c0_i32_1274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1273 : BitVec 32 := 1#32
  let v1437 : BitVec 32 := Scalar.muli v68 c1_i32_1273
  let v1438 : BitVec 32 := Scalar.addi c0_i32_1274 v1437
  v1438.toNat
def k0_dev28 (d0 : Dev nD) : Nat :=
  let c0_i32_1328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1327 : BitVec 32 := 1#32
  let v1495 : BitVec 32 := Scalar.muli v81 c1_i32_1327
  let v1496 : BitVec 32 := Scalar.addi c0_i32_1328 v1495
  v1496.toNat
def k0_off17 (d0 : Dev nD) (c0_i32_1473 : BitVec 32) (c0_i32_1481 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_808 : BitVec 32 := 1#32
  let v923 : BitVec 32 := Scalar.addi v29 c1_i32_808
  let c4_i32_809 : BitVec 32 := 4#32
  let c0_i32_810 : BitVec 32 := 0#32
  let v924 : BitVec 1 := Scalar.cmpi .eq c4_i32_809 c0_i32_810
  let c1_i32_811 : BitVec 32 := 1#32
  let v925 : BitVec 32 := Scalar.select v924 c1_i32_811 c4_i32_809
  let v926 : BitVec 32 := Scalar.remsi v923 v925
  let c0_i32_813 : BitVec 32 := 0#32
  let v928 : BitVec 1 := Scalar.cmpi .slt v926 c0_i32_813
  let c0_i32_814 : BitVec 32 := 0#32
  let v929 : BitVec 1 := Scalar.cmpi .slt v925 c0_i32_814
  let v930 : BitVec 1 := Scalar.xori v928 v929
  let c0_i32_812 : BitVec 32 := 0#32
  let v927 : BitVec 1 := Scalar.cmpi .ne v926 c0_i32_812
  let v931 : BitVec 1 := Scalar.andi v930 v927
  let v932 : BitVec 32 := Scalar.addi v926 v925
  let v933 : BitVec 32 := Scalar.select v931 v932 v926
  let c128_i32_815 : BitVec 32 := 128#32
  let v934 : BitVec 32 := Scalar.muli v933 c128_i32_815
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1472 : BitVec 32 := 1#32
  let v1644 : BitVec 32 := Scalar.addi v19 c1_i32_1472
  let v1645 : BitVec 32 := Scalar.subi v1644 c0_i32_1473
  let c4_i32_1474 : BitVec 32 := 4#32
  let c0_i32_1475 : BitVec 32 := 0#32
  let v1646 : BitVec 1 := Scalar.cmpi .eq c4_i32_1474 c0_i32_1475
  let c1_i32_1476 : BitVec 32 := 1#32
  let v1647 : BitVec 32 := Scalar.select v1646 c1_i32_1476 c4_i32_1474
  let v1648 : BitVec 32 := Scalar.remsi v1645 v1647
  let c0_i32_1478 : BitVec 32 := 0#32
  let v1650 : BitVec 1 := Scalar.cmpi .slt v1648 c0_i32_1478
  let c0_i32_1479 : BitVec 32 := 0#32
  let v1651 : BitVec 1 := Scalar.cmpi .slt v1647 c0_i32_1479
  let v1652 : BitVec 1 := Scalar.xori v1650 v1651
  let c0_i32_1477 : BitVec 32 := 0#32
  let v1649 : BitVec 1 := Scalar.cmpi .ne v1648 c0_i32_1477
  let v1653 : BitVec 1 := Scalar.andi v1652 v1649
  let v1654 : BitVec 32 := Scalar.addi v1648 v1647
  let v1655 : BitVec 32 := Scalar.select v1653 v1654 v1648
  let c32_i32_1480 : BitVec 32 := 32#32
  let v1656 : BitVec 32 := Scalar.muli v1655 c32_i32_1480
  let v1657 : BitVec 32 := Scalar.addi v934 v1656
  let v1658 : BitVec 32 := Scalar.addi v1657 c0_i32_1481
  let c0_i32_1486 : BitVec 32 := 0#32
  ![v1658.toNat, 0]
def k0_dev29 (d0 : Dev nD) : Nat :=
  let c0_i32_1485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1484 : BitVec 32 := 1#32
  let v1659 : BitVec 32 := Scalar.muli v68 c1_i32_1484
  let v1660 : BitVec 32 := Scalar.addi c0_i32_1485 v1659
  v1660.toNat
def k0_off18 (d0 : Dev nD) (c0_i32_1489 : BitVec 32) (c0_i32_1497 : BitVec 32) : Fin 2 → Nat :=
  let c512_i32_824 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_816 : BitVec 32 := 1#32
  let v935 : BitVec 32 := Scalar.subi v29 c1_i32_816
  let c4_i32_817 : BitVec 32 := 4#32
  let c0_i32_818 : BitVec 32 := 0#32
  let v936 : BitVec 1 := Scalar.cmpi .eq c4_i32_817 c0_i32_818
  let c1_i32_819 : BitVec 32 := 1#32
  let v937 : BitVec 32 := Scalar.select v936 c1_i32_819 c4_i32_817
  let v938 : BitVec 32 := Scalar.remsi v935 v937
  let c0_i32_821 : BitVec 32 := 0#32
  let v940 : BitVec 1 := Scalar.cmpi .slt v938 c0_i32_821
  let c0_i32_822 : BitVec 32 := 0#32
  let v941 : BitVec 1 := Scalar.cmpi .slt v937 c0_i32_822
  let v942 : BitVec 1 := Scalar.xori v940 v941
  let c0_i32_820 : BitVec 32 := 0#32
  let v939 : BitVec 1 := Scalar.cmpi .ne v938 c0_i32_820
  let v943 : BitVec 1 := Scalar.andi v942 v939
  let v944 : BitVec 32 := Scalar.addi v938 v937
  let v945 : BitVec 32 := Scalar.select v943 v944 v938
  let c128_i32_823 : BitVec 32 := 128#32
  let v946 : BitVec 32 := Scalar.muli v945 c128_i32_823
  let v947 : BitVec 32 := Scalar.addi c512_i32_824 v946
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1488 : BitVec 32 := 1#32
  let v1667 : BitVec 32 := Scalar.subi v19 c1_i32_1488
  let v1668 : BitVec 32 := Scalar.addi v1667 c0_i32_1489
  let c4_i32_1490 : BitVec 32 := 4#32
  let c0_i32_1491 : BitVec 32 := 0#32
  let v1669 : BitVec 1 := Scalar.cmpi .eq c4_i32_1490 c0_i32_1491
  let c1_i32_1492 : BitVec 32 := 1#32
  let v1670 : BitVec 32 := Scalar.select v1669 c1_i32_1492 c4_i32_1490
  let v1671 : BitVec 32 := Scalar.remsi v1668 v1670
  let c0_i32_1494 : BitVec 32 := 0#32
  let v1673 : BitVec 1 := Scalar.cmpi .slt v1671 c0_i32_1494
  let c0_i32_1495 : BitVec 32 := 0#32
  let v1674 : BitVec 1 := Scalar.cmpi .slt v1670 c0_i32_1495
  let v1675 : BitVec 1 := Scalar.xori v1673 v1674
  let c0_i32_1493 : BitVec 32 := 0#32
  let v1672 : BitVec 1 := Scalar.cmpi .ne v1671 c0_i32_1493
  let v1676 : BitVec 1 := Scalar.andi v1675 v1672
  let v1677 : BitVec 32 := Scalar.addi v1671 v1670
  let v1678 : BitVec 32 := Scalar.select v1676 v1677 v1671
  let c32_i32_1496 : BitVec 32 := 32#32
  let v1679 : BitVec 32 := Scalar.muli v1678 c32_i32_1496
  let v1680 : BitVec 32 := Scalar.addi v947 v1679
  let v1681 : BitVec 32 := Scalar.addi v1680 c0_i32_1497
  let c0_i32_1503 : BitVec 32 := 0#32
  ![v1681.toNat, 0]
def k0_dev30 (d0 : Dev nD) : Nat :=
  let c0_i32_1502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1501 : BitVec 32 := 1#32
  let v1682 : BitVec 32 := Scalar.muli v81 c1_i32_1501
  let v1683 : BitVec 32 := Scalar.addi c0_i32_1502 v1682
  v1683.toNat
def k0_dev31 (d0 : Dev nD) : Nat :=
  let c0_i32_1519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1518 : BitVec 32 := 1#32
  let v1705 : BitVec 32 := Scalar.muli v68 c1_i32_1518
  let v1706 : BitVec 32 := Scalar.addi c0_i32_1519 v1705
  v1706.toNat
def k0_dev32 (d0 : Dev nD) : Nat :=
  let c0_i32_1536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1535 : BitVec 32 := 1#32
  let v1728 : BitVec 32 := Scalar.muli v81 c1_i32_1535
  let v1729 : BitVec 32 := Scalar.addi c0_i32_1536 v1728
  v1729.toNat
def k0_dev33 (d0 : Dev nD) : Nat :=
  let c0_i32_1566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1565 : BitVec 32 := 1#32
  let v1761 : BitVec 32 := Scalar.muli v68 c1_i32_1565
  let v1762 : BitVec 32 := Scalar.addi c0_i32_1566 v1761
  v1762.toNat
def k0_dev34 (d0 : Dev nD) : Nat :=
  let c0_i32_1596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1595 : BitVec 32 := 1#32
  let v1794 : BitVec 32 := Scalar.muli v81 c1_i32_1595
  let v1795 : BitVec 32 := Scalar.addi c0_i32_1596 v1794
  v1795.toNat
def k0_dev35 (d0 : Dev nD) : Nat :=
  let c0_i32_1626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1625 : BitVec 32 := 1#32
  let v1827 : BitVec 32 := Scalar.muli v68 c1_i32_1625
  let v1828 : BitVec 32 := Scalar.addi c0_i32_1626 v1827
  v1828.toNat
def k0_dev36 (d0 : Dev nD) : Nat :=
  let c0_i32_1656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1655 : BitVec 32 := 1#32
  let v1860 : BitVec 32 := Scalar.muli v81 c1_i32_1655
  let v1861 : BitVec 32 := Scalar.addi c0_i32_1656 v1860
  v1861.toNat
def k0_dev37 (d0 : Dev nD) : Nat :=
  let c0_i32_1685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1684 : BitVec 32 := 1#32
  let v1893 : BitVec 32 := Scalar.muli v68 c1_i32_1684
  let v1894 : BitVec 32 := Scalar.addi c0_i32_1685 v1893
  v1894.toNat
def k0_dev38 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1714 : BitVec 32 := 1#32
  let v1926 : BitVec 32 := Scalar.muli v81 c1_i32_1714
  let v1927 : BitVec 32 := Scalar.addi c0_i32_1715 v1926
  v1927.toNat
def k0_dev39 (d0 : Dev nD) : Nat :=
  let c0_i32_1745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1744 : BitVec 32 := 1#32
  let v1959 : BitVec 32 := Scalar.muli v68 c1_i32_1744
  let v1960 : BitVec 32 := Scalar.addi c0_i32_1745 v1959
  v1960.toNat
def k0_dev40 (d0 : Dev nD) : Nat :=
  let c0_i32_1775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1774 : BitVec 32 := 1#32
  let v1992 : BitVec 32 := Scalar.muli v81 c1_i32_1774
  let v1993 : BitVec 32 := Scalar.addi c0_i32_1775 v1992
  v1993.toNat
def k0_off19 (d0 : Dev nD) (c0_i32_1831 : BitVec 32) (c0_i32_1839 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_1830 : BitVec 32 := 1#32
  let v2040 : BitVec 32 := Scalar.addi v29 c1_i32_1830
  let v2041 : BitVec 32 := Scalar.subi v2040 c0_i32_1831
  let c4_i32_1832 : BitVec 32 := 4#32
  let c0_i32_1833 : BitVec 32 := 0#32
  let v2042 : BitVec 1 := Scalar.cmpi .eq c4_i32_1832 c0_i32_1833
  let c1_i32_1834 : BitVec 32 := 1#32
  let v2043 : BitVec 32 := Scalar.select v2042 c1_i32_1834 c4_i32_1832
  let v2044 : BitVec 32 := Scalar.remsi v2041 v2043
  let c0_i32_1836 : BitVec 32 := 0#32
  let v2046 : BitVec 1 := Scalar.cmpi .slt v2044 c0_i32_1836
  let c0_i32_1837 : BitVec 32 := 0#32
  let v2047 : BitVec 1 := Scalar.cmpi .slt v2043 c0_i32_1837
  let v2048 : BitVec 1 := Scalar.xori v2046 v2047
  let c0_i32_1835 : BitVec 32 := 0#32
  let v2045 : BitVec 1 := Scalar.cmpi .ne v2044 c0_i32_1835
  let v2049 : BitVec 1 := Scalar.andi v2048 v2045
  let v2050 : BitVec 32 := Scalar.addi v2044 v2043
  let v2051 : BitVec 32 := Scalar.select v2049 v2050 v2044
  let c128_i32_1838 : BitVec 32 := 128#32
  let v2052 : BitVec 32 := Scalar.muli v2051 c128_i32_1838
  let v2053 : BitVec 32 := Scalar.addi v2052 c0_i32_1839
  let c0_i32_1845 : BitVec 32 := 0#32
  ![v2053.toNat, 0]
def k0_dev41 (d0 : Dev nD) : Nat :=
  let c0_i32_1844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1843 : BitVec 32 := 1#32
  let v2054 : BitVec 32 := Scalar.muli v42 c1_i32_1843
  let v2055 : BitVec 32 := Scalar.addi c0_i32_1844 v2054
  v2055.toNat
def k0_off20 (d0 : Dev nD) (c0_i32_1848 : BitVec 32) (c0_i32_1857 : BitVec 32) : Fin 2 → Nat :=
  let c512_i32_1856 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_1847 : BitVec 32 := 1#32
  let v2062 : BitVec 32 := Scalar.subi v29 c1_i32_1847
  let v2063 : BitVec 32 := Scalar.addi v2062 c0_i32_1848
  let c4_i32_1849 : BitVec 32 := 4#32
  let c0_i32_1850 : BitVec 32 := 0#32
  let v2064 : BitVec 1 := Scalar.cmpi .eq c4_i32_1849 c0_i32_1850
  let c1_i32_1851 : BitVec 32 := 1#32
  let v2065 : BitVec 32 := Scalar.select v2064 c1_i32_1851 c4_i32_1849
  let v2066 : BitVec 32 := Scalar.remsi v2063 v2065
  let c0_i32_1853 : BitVec 32 := 0#32
  let v2068 : BitVec 1 := Scalar.cmpi .slt v2066 c0_i32_1853
  let c0_i32_1854 : BitVec 32 := 0#32
  let v2069 : BitVec 1 := Scalar.cmpi .slt v2065 c0_i32_1854
  let v2070 : BitVec 1 := Scalar.xori v2068 v2069
  let c0_i32_1852 : BitVec 32 := 0#32
  let v2067 : BitVec 1 := Scalar.cmpi .ne v2066 c0_i32_1852
  let v2071 : BitVec 1 := Scalar.andi v2070 v2067
  let v2072 : BitVec 32 := Scalar.addi v2066 v2065
  let v2073 : BitVec 32 := Scalar.select v2071 v2072 v2066
  let c128_i32_1855 : BitVec 32 := 128#32
  let v2074 : BitVec 32 := Scalar.muli v2073 c128_i32_1855
  let v2075 : BitVec 32 := Scalar.addi c512_i32_1856 v2074
  let v2076 : BitVec 32 := Scalar.addi v2075 c0_i32_1857
  let c0_i32_1863 : BitVec 32 := 0#32
  ![v2076.toNat, 0]
def k0_dev42 (d0 : Dev nD) : Nat :=
  let c0_i32_1862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1861 : BitVec 32 := 1#32
  let v2077 : BitVec 32 := Scalar.muli v55 c1_i32_1861
  let v2078 : BitVec 32 := Scalar.addi c0_i32_1862 v2077
  v2078.toNat
def k0_dev43 (d0 : Dev nD) : Nat :=
  let c0_i32_1879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1878 : BitVec 32 := 1#32
  let v2099 : BitVec 32 := Scalar.muli v42 c1_i32_1878
  let v2100 : BitVec 32 := Scalar.addi c0_i32_1879 v2099
  v2100.toNat
def k0_dev44 (d0 : Dev nD) : Nat :=
  let c0_i32_1897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1896 : BitVec 32 := 1#32
  let v2122 : BitVec 32 := Scalar.muli v55 c1_i32_1896
  let v2123 : BitVec 32 := Scalar.addi c0_i32_1897 v2122
  v2123.toNat
def k0_dev45 (d0 : Dev nD) : Nat :=
  let c0_i32_1927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1926 : BitVec 32 := 1#32
  let v2154 : BitVec 32 := Scalar.muli v42 c1_i32_1926
  let v2155 : BitVec 32 := Scalar.addi c0_i32_1927 v2154
  v2155.toNat
def k0_dev46 (d0 : Dev nD) : Nat :=
  let c0_i32_1958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1957 : BitVec 32 := 1#32
  let v2187 : BitVec 32 := Scalar.muli v55 c1_i32_1957
  let v2188 : BitVec 32 := Scalar.addi c0_i32_1958 v2187
  v2188.toNat
def k0_dev47 (d0 : Dev nD) : Nat :=
  let c0_i32_1988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1987 : BitVec 32 := 1#32
  let v2219 : BitVec 32 := Scalar.muli v42 c1_i32_1987
  let v2220 : BitVec 32 := Scalar.addi c0_i32_1988 v2219
  v2220.toNat
def k0_dev48 (d0 : Dev nD) : Nat :=
  let c0_i32_2019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_2018 : BitVec 32 := 1#32
  let v2252 : BitVec 32 := Scalar.muli v55 c1_i32_2018
  let v2253 : BitVec 32 := Scalar.addi c0_i32_2019 v2252
  v2253.toNat
def k0_dev49 (d0 : Dev nD) : Nat :=
  let c0_i32_2049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2048 : BitVec 32 := 1#32
  let v2284 : BitVec 32 := Scalar.muli v42 c1_i32_2048
  let v2285 : BitVec 32 := Scalar.addi c0_i32_2049 v2284
  v2285.toNat
def k0_dev50 (d0 : Dev nD) : Nat :=
  let c0_i32_2080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_2079 : BitVec 32 := 1#32
  let v2317 : BitVec 32 := Scalar.muli v55 c1_i32_2079
  let v2318 : BitVec 32 := Scalar.addi c0_i32_2080 v2317
  v2318.toNat
def k0_dev51 (d0 : Dev nD) : Nat :=
  let c0_i32_2110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2109 : BitVec 32 := 1#32
  let v2349 : BitVec 32 := Scalar.muli v42 c1_i32_2109
  let v2350 : BitVec 32 := Scalar.addi c0_i32_2110 v2349
  v2350.toNat
def k0_dev52 (d0 : Dev nD) : Nat :=
  let c0_i32_2141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_2140 : BitVec 32 := 1#32
  let v2382 : BitVec 32 := Scalar.muli v55 c1_i32_2140
  let v2383 : BitVec 32 := Scalar.addi c0_i32_2141 v2382
  v2383.toNat
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x65536 : Shape := ⟨2, ![1024, 65536]⟩
abbrev S65536x1024 : Shape := ⟨2, ![65536, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x65536, .f32⟩
  | .hbm, ⟨1, _⟩ => ⟨S1024x65536, .f32⟩
  | .hbm, ⟨2, _⟩ => ⟨S65536x1024, .f32⟩
  | .hbm, ⟨3, _⟩ => ⟨S1024x1024, .f32⟩
  | _, _ => ⟨S1024x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KI.Prog.lean ====
/- The kernel's program, written once more block by block: a gemm block, the barrier, the start of a copy, and one
   step of a ring (wait for the landing, add it, wait for the own copy, start the next one).
   The printed program is this one by unfolding (`body_eq`). -/
module

public import proofs.«01_k».proof.Proof.Gen.KernelIdeal.Skeleton

@[expose] public section

noncomputable section

namespace Cert.KernelIdeal.Rings

open Cert.KernelIdeal Cert.KernelIdeal.Gen
open Idealize.ShloMosaic Idealize.SL.Sem

variable {F : FTy → Type} [FloatOps F]

/-! ## Lanes

A lane is a ring and a direction on it: lanes 0 and 1 are the two directions of the first ring, lanes 2 and 3 those
of the second ring. -/

/-- The rows of the piece one copy of the lane moves. -/
def rows : Fin 4 → ℕ
  | 0 => 64
  | 1 => 64
  | 2 => 16
  | 3 => 16

/-- A piece of `H` rows. -/
abbrev blkS (H : ℕ) : Shape := ⟨2, ![H, 1024]⟩
/-- A receive buffer: three steps, two halves. -/
abbrev bufS (H : ℕ) : Shape := ⟨4, ![3, 2, H, 1024]⟩
/-- One slot of a receive buffer. -/
abbrev slotS (H : ℕ) : Shape := ⟨4, ![1, 1, H, 1024]⟩
/-- A vector-memory view of 32-bit floats. -/
abbrev VM (s : Shape) : Type := Memref sig .tc .vmem s .f32

/-- The lane's receive buffer. -/
def bufM : (l : Fin 4) → VM (bufS (rows l))
  | 0 => Memref.whole cc0_scratch0
  | 1 => Memref.whole cc0_scratch1
  | 2 => Memref.whole cc0_scratch2
  | 3 => Memref.whole cc0_scratch3

/-- The operands' and the result's buffers, whole. -/
abbrev dyM : VM S1024x4096 := Memref.whole cc0_stg0_0
abbrev wM : VM S1024x4096 := Memref.whole cc0_stg1_0
abbrev outM : VM S1024x1024 := Memref.whole cc0_stg2_0

theorem slot_inb (l : Fin 4) (n : Fin 3) (h : Fin 2) :
    ∀ a, (![(n : ℕ), (h : ℕ), 0, 0] : Fin 4 → ℕ) a + (slotS (rows l)).size a ≤ (bufS (rows l)).size a := by
  revert l n h; decide

theorem slot_squeezes (l : Fin 4) : (slotS (rows l)).Squeezes (blkS (rows l)) := by
  revert l; decide

theorem slot_casts (l : Fin 4) : (slotS (rows l)).ShapeCasts (blkS (rows l)) := by
  revert l; decide

theorem slot_pos (l : Fin 4) : 0 < (slotS (rows l)).numel := by
  revert l; decide

theorem blk_pos (l : Fin 4) : 0 < (blkS (rows l)).numel := by
  revert l; decide

theorem blk_casts (l : Fin 4) : (blkS (rows l)).ShapeCasts (blkS (rows l)) := by
  revert l; decide

/-- The rectangle of slot `(n, h)` in the lane's receive buffer. -/
abbrev slotR (l : Fin 4) (n : Fin 3) (h : Fin 2) : Rect (bufS (rows l)) :=
  Rect.unit (s := bufS (rows l)) ![(n : ℕ), (h : ℕ), 0, 0] (slotS (rows l)).size (slot_inb l n h)

/-- Slot `(n, h)` of the lane's receive buffer. -/
def slotM (l : Fin 4) (n : Fin 3) (h : Fin 2) : VM (blkS (rows l)) :=
  ((bufM l).slice (slotR l n h) (fun _ => rfl)).squeeze (blkS (rows l)) (slot_squeezes l)

/-- The rectangle of the result's rows `o` on. -/
abbrev outR (H : ℕ) (o : Fin 2 → ℕ) (ho : ∀ a, o a + (blkS H).size a ≤ S1024x1024.size a) : Rect S1024x1024 :=
  Rect.unit (s := S1024x1024) o (blkS H).size ho

/-- The rows `o` on of the result. -/
abbrev outSl (H : ℕ) (o : Fin 2 → ℕ) (ho : ∀ a, o a + (blkS H).size a ≤ S1024x1024.size a) : VM (blkS H) :=
  outM.slice (outR H o ho) (fun _ => rfl)

/-- The semaphore that counts the lane's own copies of half `h`. -/
def sndSem (l : Fin 4) (h : Fin 2) : DmaSem sig := ⟨3 + 2 * l.val + h.val, by revert l h; decide⟩
/-- The semaphore that counts the landing of step `n`, half `h`, on the lane. -/
def rcvSem (l : Fin 4) (n : Fin 6) (h : Fin 2) : DmaSem sig := ⟨11 + 12 * l.val + 2 * n.val + h.val, by revert l n h; decide⟩

/-- The programs of the kernel. -/
abbrev KProg : Type _ := Prog (TpuEff nD τ sig (Elt F) Λ₀ .tc) PUnit

/-- Start a copy of `src` to device `t`'s `dst`. -/
def sendP (snd rcv : DmaSem sig) (t : Dev nD) {s : Shape} (src dst : VM s) : KProg (F := F) :=
  Prog.lift (.enqueueDma src (.remote (Dev.tc t) dst (.dma snd)) (.dma rcv) (View.wordExact_bits rfl)
    (View.wordExact_bits rfl) ⟨⟨rfl, Or.inl rfl⟩, trivial⟩)

/-- Wait for a copy that is counted on `sem`. -/
def waitP (sem : DmaSem sig) {s : Shape} (src dst : VM s) : KProg (F := F) :=
  Prog.lift (.waitDma2 sem src dst (View.wordExact_bits rfl) (View.wordExact_bits rfl))

/-- The product of 128 rows with the transposed weight. -/
def gemmV (x : Vec F S128x4096 .f32) (w : Vec F S1024x4096 .f32) : FVec F S128x1024 .f32 :=
  matmul dot_S128x4096_S1024x4096_S128x1024_1_1_0_0_n_n none (shapeCast S128x4096 x shapeCasts_S128x4096_S128x4096)
    (shapeCast S1024x4096 w shapeCasts_S1024x4096_S1024x4096) (constant S128x1024 .f32 0x00000000#32)

/-- The rectangle of the whole weight. -/
abbrev wR : Rect S1024x4096 := Rect.unit (s := S1024x4096) ![0, 0] S1024x4096.size inb_S1024x4096_S1024x4096_0_0

/-- Multiply the 128 rows at `a` and store them at `o`. -/
def gemmP (a : Fin 2 → ℕ) (ha : ∀ k, a k + S128x4096.size k ≤ S1024x4096.size k)
    (o : Fin 2 → ℕ) (ho : ∀ k, o k + S128x1024.size k ≤ S1024x1024.size k) : KProg (F := F) := do
  let x : Vec F S128x4096 .f32 ← Prog.lift (.load dyM (Rect.unit (s := S1024x4096) a S128x4096.size ha).toLoadRect (View.loadsAt_vmem h_S128x4096))
  let w : Vec F S1024x4096 .f32 ← Prog.lift (.load wM wR.toLoadRect (View.loadsAt_vmem h_S1024x4096))
  let _ : Vec F S128x1024 .f32 ← Prog.lift (.load outM (Rect.unit (s := S1024x1024) o S128x1024.size ho).toLoadRect (View.loadsAt_vmem h_S128x1024))
  Prog.lift (.store outM (Rect.unit (s := S1024x1024) o S128x1024.size ho) (gemmV x w) Finset.univ (View.stores_vmem_bits_univ h_S128x1024 rfl) (.inl rfl))

/-- What the accumulate stores: the own rows plus the landed ones. -/
def accV (l : Fin 4) (x : Vec F (blkS (rows l)) .f32) (y : Vec F (slotS (rows l)) .f32) : FVec F (blkS (rows l)) .f32 :=
  addf (shapeCast (blkS (rows l)) x (blk_casts l)) (shapeCast (blkS (rows l)) y (slot_casts l))

/-- Add slot `(n, h)` of the lane to the rows `o` on of the result. -/
def accP (l : Fin 4) (n : Fin 3) (h : Fin 2) (o : Fin 2 → ℕ)
    (ho : ∀ a, o a + (blkS (rows l)).size a ≤ S1024x1024.size a) : KProg (F := F) := do
  let x : Vec F (blkS (rows l)) .f32 ← Prog.lift (.load outM (outR (rows l) o ho).toLoadRect (View.loadsAt_vmem (blk_pos l)))
  let y : Vec F (slotS (rows l)) .f32 ← Prog.lift (.load (bufM l) (slotR l n h).toLoadRect (View.loadsAt_vmem (slot_pos l)))
  let _ : Vec F (blkS (rows l)) .f32 ← Prog.lift (.load outM (outR (rows l) o ho).toLoadRect (View.loadsAt_vmem (blk_pos l)))
  Prog.lift (.store outM (outR (rows l) o ho) (accV l x y) Finset.univ (View.stores_vmem_bits_univ (blk_pos l) rfl) (.inl rfl))

/-! ## The kernel's own numbers -/

/-- Where a piece lies, as offsets the program computes. -/
structure Offs (l : Fin 4) where
  o : Fin 2 → ℕ
  ho : ∀ a, o a + (blkS (rows l)).size a ≤ S1024x1024.size a

/-- The rows the lane's copy of step `n`, half `h` reads, as the program computes them. -/
def srcK (d : Dev nD) (l : Fin 4) (n : Fin 6) (h : Fin 2) : Offs l :=
  match l with
  | 0 => if hn : n.val < 3
      then ⟨k0_off5 d (BitVec.ofNat 32 n.val) (BitVec.ofNat 32 (64 * h.val)), k0_off5_inb d ⟨n.val, hn⟩ h⟩
      else ⟨k0_off19 d (BitVec.ofNat 32 (n.val - 3)) (BitVec.ofNat 32 (64 * h.val)), k0_off19_inb d ⟨n.val - 3, by omega⟩ h⟩
  | 1 => if hn : n.val < 3
      then ⟨k0_off6 d (BitVec.ofNat 32 n.val) (BitVec.ofNat 32 (64 * h.val)), k0_off6_inb d ⟨n.val, hn⟩ h⟩
      else ⟨k0_off20 d (BitVec.ofNat 32 (n.val - 3)) (BitVec.ofNat 32 (64 * h.val)), k0_off20_inb d ⟨n.val - 3, by omega⟩ h⟩
  | 2 => if hn : n.val < 3
      then ⟨k0_off13 d (BitVec.ofNat 32 n.val) (BitVec.ofNat 32 (16 * h.val)), k0_off13_inb d ⟨n.val, hn⟩ h⟩
      else ⟨k0_off17 d (BitVec.ofNat 32 (n.val - 3)) (BitVec.ofNat 32 (16 * h.val)), k0_off17_inb d ⟨n.val - 3, by omega⟩ h⟩
  | 3 => if hn : n.val < 3
      then ⟨k0_off14 d (BitVec.ofNat 32 n.val) (BitVec.ofNat 32 (16 * h.val)), k0_off14_inb d ⟨n.val, hn⟩ h⟩
      else ⟨k0_off18 d (BitVec.ofNat 32 (n.val - 3)) (BitVec.ofNat 32 (16 * h.val)), k0_off18_inb d ⟨n.val - 3, by omega⟩ h⟩

/-- The rows the landing of step `n`, half `h` is added to, as the program computes them. -/
def accK (d : Dev nD) : (l : Fin 4) → (n : Fin 3) → (h : Fin 2) → Offs l
  | 0, n, h => ⟨k0_off11 d (BitVec.ofNat 32 n.val) (BitVec.ofNat 32 (64 * h.val)), k0_off11_inb d n h⟩
  | 1, n, h => ⟨k0_off12 d (BitVec.ofNat 32 n.val) (BitVec.ofNat 32 (64 * h.val)), k0_off12_inb d n h⟩
  | 2, n, h => ⟨k0_off15 d (BitVec.ofNat 32 n.val) (BitVec.ofNat 32 (16 * h.val)), k0_off15_inb d n h⟩
  | 3, n, h => ⟨k0_off16 d (BitVec.ofNat 32 n.val) (BitVec.ofNat 32 (16 * h.val)), k0_off16_inb d n h⟩

/-- The device a lane copies to, as the program computes it. -/
def nbrK (d : Dev nD) : Fin 4 → Dev nD
  | 0 => ⟨k0_dev5 d, k0_dev5_lt d⟩
  | 1 => ⟨k0_dev6 d, k0_dev6_lt d⟩
  | 2 => ⟨k0_dev17 d, k0_dev17_lt d⟩
  | 3 => ⟨k0_dev18 d, k0_dev18_lt d⟩

/-! ## The blocks of the program -/

/-- Start the lane's copy of step `n`, half `h`. A copy of the first three steps lands in the receive buffer, a later
    one in the result, at the rows it was read from. -/
def startP (d : Dev nD) (l : Fin 4) (n : Fin 6) (h : Fin 2) : KProg (F := F) :=
  if hn : n.val < 3 then
    sendP (sndSem l h) (rcvSem l n h) (nbrK d l) (outSl (rows l) (srcK d l n h).o (srcK d l n h).ho) (slotM l ⟨n.val, hn⟩ h)
  else
    sendP (sndSem l h) (rcvSem l n h) (nbrK d l) (outSl (rows l) (srcK d l n h).o (srcK d l n h).ho)
      (outSl (rows l) (srcK d l n h).o (srcK d l n h).ho)

/-- Wait for the landing of step `n`, half `h`, on the lane, add it if it is one of the first three, and wait for the
    own copy of that step. -/
def recvP (d : Dev nD) (l : Fin 4) (n : Fin 6) (h : Fin 2) : KProg (F := F) :=
  if hn : n.val < 3 then do
    waitP (rcvSem l n h) (outSl (rows l) (srcK d l n h).o (srcK d l n h).ho) (slotM l ⟨n.val, hn⟩ h)
    accP l ⟨n.val, hn⟩ h (accK d l ⟨n.val, hn⟩ h).o (accK d l ⟨n.val, hn⟩ h).ho
    waitP (sndSem l h) (slotM l ⟨n.val, hn⟩ h) (outSl (rows l) (srcK d l n h).o (srcK d l n h).ho)
  else do
    waitP (rcvSem l n h) (outSl (rows l) (srcK d l n h).o (srcK d l n h).ho) (outSl (rows l) (srcK d l n h).o (srcK d l n h).ho)
    waitP (sndSem l h) (outSl (rows l) (srcK d l n h).o (srcK d l n h).ho) (outSl (rows l) (srcK d l n h).o (srcK d l n h).ho)

/-- The two lanes of ring `r`. -/
def laneOf (r σ : Fin 2) : Fin 4 := ⟨2 * r.val + σ.val, by omega⟩

/-- The first copies of half `h` of a phase of ring `r`, in both directions. -/
def openH (d : Dev nD) (r : Fin 2) (n : Fin 6) (h : Fin 2) : KProg (F := F) := do
  startP d (laneOf r 0) n h
  startP d (laneOf r 1) n h

/-- The first copies of a phase of ring `r`. -/
def openP (d : Dev nD) (r : Fin 2) (n : Fin 6) : KProg (F := F) := do
  openH d r n 0
  openH d r n 1

/-- Step `n` of half `h` on both directions of ring `r`, each direction going on with its next copy. -/
def goP (d : Dev nD) (r : Fin 2) (n m : Fin 6) (h : Fin 2) : KProg (F := F) := do
  recvP d (laneOf r 0) n h
  startP d (laneOf r 0) m h
  recvP d (laneOf r 1) n h
  startP d (laneOf r 1) m h

/-- The last step of a phase: no copy follows it. -/
def endP (d : Dev nD) (r : Fin 2) (n : Fin 6) (h : Fin 2) : KProg (F := F) := do
  recvP d (laneOf r 0) n h
  recvP d (laneOf r 1) n h

/-- The gemm blocks computed before the first copies. -/
def gemm0P (d : Dev nD) : KProg (F := F) := do
  gemmP (k0_off1 d) (k0_off1_inb d) (k0_off2 d) (k0_off2_inb d)
  gemmP (k0_off3 d) (k0_off3_inb d) (k0_off4 d) (k0_off4_inb d)

/-- The gemm blocks computed while step `s` of the first ring is under way. -/
def gemmsP (d : Dev nD) (s : Fin 3) : KProg (F := F) := do
  gemmP (k0_off7 d (BitVec.ofNat 32 s.val)) (k0_off7_inb d s) (k0_off8 d (BitVec.ofNat 32 s.val)) (k0_off8_inb d s)
  gemmP (k0_off9 d (BitVec.ofNat 32 s.val)) (k0_off9_inb d s) (k0_off10 d (BitVec.ofNat 32 s.val)) (k0_off10_inb d s)

/-- The barrier's semaphore. -/
abbrev barSem : Sem sig := (SemArray.scalar (sig.barrier 0 rfl) : Sems sig S_).sem

/-- The barrier: signal the four neighbours, wait for four signals. -/
def barP (d : Dev nD) : KProg (F := F) := do
  semSignalWord (⟨k0_dev1 d, k0_dev1_lt d⟩ : Dev nD) barSem 1#32
  semSignalWord (⟨k0_dev2 d, k0_dev2_lt d⟩ : Dev nD) barSem 1#32
  semSignalWord (⟨k0_dev3 d, k0_dev3_lt d⟩ : Dev nD) barSem 1#32
  semSignalWord (⟨k0_dev4 d, k0_dev4_lt d⟩ : Dev nD) barSem 1#32
  semWaitWord barSem 4#32

/-- One phase of a ring after its first copies: the steps `n`, `n + 1`, `n + 2`. -/
def phaseP (d : Dev nD) (r : Fin 2) (a b c : Fin 6) : KProg (F := F) := do
  goP d r a b 0
  goP d r a b 1
  goP d r b c 0
  goP d r b c 1
  endP d r c 0
  endP d r c 1

/-- The first ring's first phase, the gemm blocks in between. -/
def firstP (d : Dev nD) : KProg (F := F) := do
  gemmsP d 0
  goP d 0 0 1 0
  goP d 0 0 1 1
  gemmsP d 1
  goP d 0 1 2 0
  goP d 0 1 2 1
  gemmsP d 2
  endP d 0 2 0
  endP d 0 2 1

/-- The kernel's body. -/
def bodyP : KProg (F := F) := do
  let d ← Prog.lift .deviceId
  gemm0P d
  barP d
  openP d 0 0
  firstP d
  openP d 1 0
  phaseP d 1 0 1 2
  openP d 1 3
  phaseP d 1 3 4 5
  openP d 0 3
  phaseP d 0 3 4 5

end Cert.KernelIdeal.Rings
-- ==== Proof.KI.Mesh.lean ====
/- The mesh: sixteen devices, device `4 p + j` in place `j` of its first ring and place `p` of its second. The four
   lanes' neighbours, the rows each copy reads and lands on, and that these are the numbers the program computes. -/
module

public import proofs.«01_k».proof.Proof.KI.Prog

@[expose] public section

noncomputable section

namespace Cert.KernelIdeal.Rings

open Cert.KernelIdeal Cert.KernelIdeal.Gen
open Idealize.ShloMosaic Idealize.SL.Sem

/-- The device lane `l` of device `c` copies to. -/
def nbr (c : Dev nD) (l : Fin 4) : Dev nD :=
  match l with
  | 0 => ⟨4 * (c.val / 4) + (c.val % 4 + 1) % 4, by have := c.isLt; change _ < 16; change c.val < 16 at this; omega⟩
  | 1 => ⟨4 * (c.val / 4) + (c.val % 4 + 3) % 4, by have := c.isLt; change _ < 16; change c.val < 16 at this; omega⟩
  | 2 => ⟨(c.val + 4) % 16, Nat.mod_lt _ (by decide)⟩
  | 3 => ⟨(c.val + 12) % 16, Nat.mod_lt _ (by decide)⟩

/-- The lane of the same ring in the other direction. -/
def opp : Fin 4 → Fin 4
  | 0 => 1
  | 1 => 0
  | 2 => 3
  | 3 => 2

/-- The device whose lane `l` copies to `c`. -/
abbrev prv (c : Dev nD) (l : Fin 4) : Dev nD := nbr c (opp l)

theorem opp_opp (l : Fin 4) : opp (opp l) = l := by revert l; decide
theorem opp_ne (l : Fin 4) : opp l ≠ l := by revert l; decide
theorem rows_opp (l : Fin 4) : rows (opp l) = rows l := by revert l; decide
theorem nbr_prv (c : Dev nD) (l : Fin 4) : nbr (prv c l) l = c := by revert c l; decide
theorem prv_nbr (c : Dev nD) (l : Fin 4) : prv (nbr c l) l = c := by revert c l; decide
theorem nbr_inj (l : Fin 4) {c c' : Dev nD} (h : nbr c l = nbr c' l) : c = c' := by
  rw [← prv_nbr c l, ← prv_nbr c' l, h]

/-- Lane `l`'s neighbour map, a bijection of the devices. -/
def ringEquiv (l : Fin 4) : Dev nD ≃ Dev nD :=
  ⟨fun c => nbr c l, fun c => prv c l, fun c => prv_nbr c l, fun c => nbr_prv c l⟩

/-- The first row of the piece lane `l` of device `c` copies at step `n`, half `h`; at `n + 1` it is where the copy of
    step `n` lands or is added. -/
def row (c : Dev nD) (l : Fin 4) (n : ℕ) (h : Fin 2) : ℕ :=
  match l with
  | 0 => 128 * ((c.val % 4 + 12 - n) % 4) + 64 * h.val
  | 1 => 512 + 128 * ((c.val % 4 + n) % 4) + 64 * h.val
  | 2 => 128 * ((c.val % 4 + 1) % 4) + 32 * ((c.val / 4 + 12 - n) % 4) + 16 * h.val
  | 3 => 512 + 128 * ((c.val % 4 + 3) % 4) + 32 * ((c.val / 4 + n) % 4) + 16 * h.val

theorem row_le (c : Dev nD) (l : Fin 4) (n : ℕ) (h : Fin 2) : row c l n h + rows l ≤ 1024 := by
  have hh := h.isLt
  match l with
  | 0 => simp only [row, rows]; omega
  | 1 => simp only [row, rows]; omega
  | 2 => simp only [row, rows]; omega
  | 3 => simp only [row, rows]; omega

/-- A row number as the offsets of a piece. -/
abbrev at2 (a : ℕ) : Fin 2 → ℕ := ![a, 0]

theorem at2_inb (a H : ℕ) (h : a + H ≤ 1024) : ∀ k, at2 a k + (blkS H).size k ≤ S1024x1024.size k := by
  intro k
  match k with
  | 0 => exact h
  | 1 => exact Nat.le_refl _

theorem srcK_o (d : Dev nD) (l : Fin 4) (n : Fin 6) (h : Fin 2) : (srcK d l n h).o = at2 (row d l n.val h) := by
  revert d l n h; decide +kernel

theorem accK_o (d : Dev nD) (l : Fin 4) (n : Fin 3) (h : Fin 2) : (accK d l n h).o = at2 (row d l (n.val + 1) h) := by
  revert d l n h; decide +kernel

theorem nbrK_eq (d : Dev nD) (l : Fin 4) : nbrK d l = nbr d l := by
  revert d l; decide +kernel

theorem bar1 (d : Dev nD) : (⟨k0_dev1 d, k0_dev1_lt d⟩ : Dev nD) = nbr d 0 := by revert d; decide +kernel
theorem bar2 (d : Dev nD) : (⟨k0_dev2 d, k0_dev2_lt d⟩ : Dev nD) = nbr d 1 := by revert d; decide +kernel
theorem bar3 (d : Dev nD) : (⟨k0_dev3 d, k0_dev3_lt d⟩ : Dev nD) = nbr d 2 := by revert d; decide +kernel
theorem bar4 (d : Dev nD) : (⟨k0_dev4 d, k0_dev4_lt d⟩ : Dev nD) = nbr d 3 := by revert d; decide +kernel

/-- The gemm blocks: direction `σ` of the first ring, the chunk of step `n`. -/
theorem gemm_off (d : Dev nD) :
    (k0_off1 d = at2 (row d 0 0 0) ∧ k0_off2 d = at2 (row d 0 0 0)) ∧ k0_off3 d = at2 (row d 1 0 0) ∧ k0_off4 d = at2 (row d 1 0 0) := by
  revert d; decide +kernel

theorem gemms_off (d : Dev nD) (s : Fin 3) :
    (k0_off7 d (BitVec.ofNat 32 s.val) = at2 (row d 0 (s.val + 1) 0) ∧ k0_off8 d (BitVec.ofNat 32 s.val) = at2 (row d 0 (s.val + 1) 0))
      ∧ k0_off9 d (BitVec.ofNat 32 s.val) = at2 (row d 1 (s.val + 1) 0) ∧ k0_off10 d (BitVec.ofNat 32 s.val) = at2 (row d 1 (s.val + 1) 0) := by
  revert d s; decide +kernel

/-- A copy lands, on the neighbour, where the neighbour's own next copy starts. -/
theorem row_nbr (c : Dev nD) (l : Fin 4) (n : ℕ) (hn : n ≤ 5) (h : Fin 2) : row c l n h = row (nbr c l) l (n + 1) h := by
  have : ∀ n : Fin 6, row c l n.val h = row (nbr c l) l (n.val + 1) h := by revert c l h; decide
  exact this ⟨n, by omega⟩

theorem row_prv (c : Dev nD) (l : Fin 4) (n : ℕ) (hn : n ≤ 5) (h : Fin 2) : row (prv c l) l n h = row c l (n + 1) h := by
  rw [row_nbr _ l n hn, nbr_prv]

/-- The rows repeat after four steps. -/
theorem row_four (c : Dev nD) (l : Fin 4) (n : ℕ) (hn : n ≤ 3) (h : Fin 2) : row c l (n + 4) h = row c l n h := by
  have : ∀ n : Fin 4, row c l (n.val + 4) h = row c l n.val h := by revert c l h; decide
  exact this ⟨n, by omega⟩

/-- A copy of one of the last three steps lands where the neighbour's copy of three steps before was read. -/
theorem row_grant (c : Dev nD) (l : Fin 4) (n : ℕ) (hn : n ≤ 2) (h : Fin 2) : row c l (n + 3) h = row (nbr c l) l n h := by
  rw [row_nbr c l (n + 3) (by omega), show n + 3 + 1 = n + 4 from rfl, row_four _ _ _ (by omega)]

end Cert.KernelIdeal.Rings
-- ==== Proof.KI.Values.lean ====
/- What the result's buffer holds as the rings go on: the own partial product, the sums the copies carry, and the
   reduced result. -/
module

public import proofs.«01_k».proof.Proof.KI.Mesh
public import Idealize.ShloMosaic.Lib.ValueIdxCore

@[expose] public section

noncomputable section

namespace Cert.KernelIdeal.Rings

open Cert.KernelIdeal Cert.KernelIdeal.Gen
open Idealize.ShloMosaic Idealize.SL.Sem Idealize.ShloMosaic.ValueIdx

variable {F : FTy → Type} [FloatOps F]

/-- The contents of the result's buffer. -/
abbrev Out (F : FTy → Type) : Type := Vec F S1024x1024 .f32

theorem dyR_inb (k : Fin 8) : ∀ a, at2 (128 * k.val) a + S128x4096.size a ≤ S1024x4096.size a := by revert k; decide

/-- The 128 rows of chunk `k` of the first operand. -/
abbrev dyR (k : Fin 8) : Rect S1024x4096 := Rect.unit (s := S1024x4096) (at2 (128 * k.val)) S128x4096.size (dyR_inb k)

/-- The chunk a row lies in, and its place there. -/
def chunkOf (i : S1024x1024.Idx) : Fin 8 := ⟨(i 0).val / 128, by have : (i 0).val < 1024 := (i 0).isLt; omega⟩
def inChunk (i : S1024x1024.Idx) : S128x1024.Idx := ix2 ⟨(i 0).val % 128, Nat.mod_lt _ (by decide)⟩ (i 1)

/-- One device's partial product, computed 128 rows at a time. -/
def part (x w : Vec F S1024x4096 .f32) : Out F := fun i =>
  gemmV ((dyM.access (dyR (chunkOf i))).read (Elt F) x) ((wM.access wR).read (Elt F) w) (inChunk i)

/-- What lane `l` of device `c` copies at step `n` of its first phase, from own contents `b`: the own rows plus what
    came from the device before. -/
def acc (b : Dev nD → Out F) (l : Fin 4) : ℕ → Dev nD → Out F
  | 0, c => b c
  | n + 1, c => addf (b c) (acc b l n (prv c l))

/-- The own contents a lane starts from: the partial product on the first ring, the first ring's sum on the second. -/
def base (P : Dev nD → Out F) : Fin 4 → Dev nD → Out F
  | 0 => P
  | 1 => P
  | 2 => acc P 0 3
  | 3 => acc P 1 3

/-- What lane `l` of device `c` copies at step `n` of its first phase. -/
def cont (P : Dev nD → Out F) (l : Fin 4) (n : ℕ) (c : Dev nD) : Out F := acc (base P l) l n c

theorem cont_zero (P : Dev nD → Out F) (l : Fin 4) (c : Dev nD) : cont P l 0 c = base P l c := rfl
theorem cont_succ (P : Dev nD → Out F) (l : Fin 4) (n : ℕ) (c : Dev nD) :
    cont P l (n + 1) c = addf (base P l c) (cont P l n (prv c l)) := rfl

/-- The lane and the device that end up with a row's sum. -/
def laneAt (a : ℕ) : Fin 4 := if a < 512 then 2 else 3
def ownerAt (a : ℕ) : Dev nD :=
  if a < 512 then ⟨4 * ((a % 128 / 32 + 3) % 4) + (a / 128 + 3) % 4, by change _ < 16; omega⟩
  else ⟨4 * ((a % 128 / 32 + 1) % 4) + (a / 128 + 1) % 4, by change _ < 16; omega⟩

/-- The reduced result, the same on every device. -/
def fin (P : Dev nD → Out F) : Out F := fun i => cont P (laneAt (i 0).val) 3 (ownerAt (i 0).val) i

theorem owner_row (c : Dev nD) (h : Fin 2) (t : Fin 16) :
    (laneAt (row c 2 3 h + t.val) = 2 ∧ ownerAt (row c 2 3 h + t.val) = c)
      ∧ laneAt (row c 3 3 h + t.val) = 3 ∧ ownerAt (row c 3 3 h + t.val) = c := by
  revert c h t; decide +kernel

/-- On the rows a lane of the second ring ends up with, its sum is the reduced result. -/
theorem fin_own (P : Dev nD → Out F) (c : Dev nD) (l : Fin 4) (hl : 2 ≤ l.val) (h : Fin 2) (i : S1024x1024.Idx)
    (h₁ : row c l 3 h ≤ (i 0).val) (h₂ : (i 0).val < row c l 3 h + rows l) : cont P l 3 c i = fin P i := by
  match l with
  | 0 => exact absurd hl (by decide)
  | 1 => exact absurd hl (by decide)
  | 2 =>
    have e : (i 0).val = row c 2 3 h + ((i 0).val - row c 2 3 h) := by omega
    have o := (owner_row c h ⟨(i 0).val - row c 2 3 h, by simp only [rows] at h₂; omega⟩).1
    simp only [← e] at o
    unfold fin; rw [o.1, o.2]
  | 3 =>
    have e : (i 0).val = row c 3 3 h + ((i 0).val - row c 3 3 h) := by omega
    have o := (owner_row c h ⟨(i 0).val - row c 3 3 h, by simp only [rows] at h₂; omega⟩).2
    simp only [← e] at o
    unfold fin; rw [o.1, o.2]

/-- The contents of a copy of step `n`: the sums, then the reduced result. -/
def cnt (P : Dev nD → Out F) (l : Fin 4) (n : ℕ) (c : Dev nD) : Out F := if n < 3 then cont P l n c else fin P

end Cert.KernelIdeal.Rings
-- ==== Proof.KI.Res.lean ====
/- The pieces of the result's buffer a device owns, as sets of rows: how they split, and how copies, loads and stores
   act on them. -/
module

public import proofs.«01_k».proof.Proof.KI.Values
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Rings

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the rings', whose duties are named by lanes -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Row sets -/

/-- The rows `a` up to `a + H` of the result. -/
def rowsSet (a H : ℕ) : Finset S1024x1024.Idx := Finset.univ.filter fun i => a ≤ (i 0).val ∧ (i 0).val < a + H

theorem mem_rowsSet {a H : ℕ} {i : S1024x1024.Idx} : i ∈ rowsSet a H ↔ a ≤ (i 0).val ∧ (i 0).val < a + H := by
  unfold rowsSet; rw [Finset.mem_filter]; exact and_iff_right (Finset.mem_univ i)

theorem rowsSet_all : rowsSet 0 1024 = Finset.univ := by
  ext i; rw [mem_rowsSet]
  exact ⟨fun _ => Finset.mem_univ _, fun _ => ⟨Nat.zero_le _, by have : (i 0).val < 1024 := (i 0).isLt; omega⟩⟩

theorem rowsSet_add (a H H' : ℕ) : rowsSet a (H + H') = rowsSet a H ∪ rowsSet (a + H) H' := by
  ext i; rw [Finset.mem_union, mem_rowsSet, mem_rowsSet, mem_rowsSet]; omega

theorem rowsSet_disjoint (a H H' : ℕ) : Disjoint (rowsSet a H) (rowsSet (a + H) H') :=
  Finset.disjoint_left.mpr fun i h₁ h₂ => by rw [mem_rowsSet] at h₁ h₂; omega

/-! ## Views of the result -/

variable (H a : ℕ) (ho : ∀ k, at2 a k + (blkS H).size k ≤ S1024x1024.size k)

theorem out_emb0 (j : (blkS H).Idx) : ((outSl H (at2 a) ho).view.emb j 0 : ℕ) = a + (j 0).val := by
  show ((outR H (at2 a) ho).emb j 0 : ℕ) = _
  rw [Rect.emb_apply]; show a + 1 * (j 0).val = _; omega
theorem out_emb1 (j : (blkS H).Idx) : ((outSl H (at2 a) ho).view.emb j 1 : ℕ) = (j 1).val := by
  show ((outR H (at2 a) ho).emb j 1 : ℕ) = _
  rw [Rect.emb_apply]; show 0 + 1 * (j 1).val = _; omega

theorem out_set : (outSl H (at2 a) ho).view.set = rowsSet a H := by
  ext i
  rw [mem_rowsSet]
  constructor
  · intro h
    obtain ⟨j, _, rfl⟩ := Finset.mem_map.mp h
    have := out_emb0 H a ho j
    have hj : (j 0).val < H := (j 0).isLt
    omega
  · rintro ⟨h₁, h₂⟩
    refine Finset.mem_map.mpr ⟨ix2 ⟨(i 0).val - a, by omega⟩ (i 1), Finset.mem_univ _, funext fun k => ?_⟩
    match k with
    | 0 => exact Fin.ext ((out_emb0 H a ho _).trans (by show a + ((i 0).val - a) = _; omega))
    | 1 => exact Fin.ext (out_emb1 H a ho _)

omit [FloatOps F] in
/-- Copying rows of `g` over rows of `f` leaves `g` there. -/
theorem out_write_read (f g : Out F) (i : S1024x1024.Idx) (hi : i ∈ rowsSet a H) :
    (outSl H (at2 a) ho).view.write (Elt F) f ((outSl H (at2 a) ho).view.read (Elt F) g) Finset.univ i = g i := by
  rw [View.write_read_eq_piecewise]
  exact Finset.piecewise_eq_of_mem _ _ _ (by rw [← out_set H a ho] at hi; exact hi)

/-! ## Pieces -/

/-- Device `c` owns the rows `a` up to `a + H` of its result, holding `f`'s rows. -/
def piece (c : Dev nD) (a H : ℕ) (f : Out F) : sProp 𝕄 :=
  outM.view.loc (c : Thread nD τ) ↦[rowsSet a H]{fullShare} f

omit [FloatOps F] in
instance piece_storable (c : Dev nD) (a H : ℕ) (f : Out F) : BI.Storable (upEmb : UEmb _ 𝕄) (piece (F := F) c a H f) := by
  unfold piece; infer_instance

omit [FloatOps F] in
theorem piece_congr (c : Dev nD) {a H : ℕ} {f g : Out F}
    (h : ∀ i : S1024x1024.Idx, a ≤ (i 0).val → (i 0).val < a + H → f i = g i) : (piece c a H f : sProp 𝕄) = piece c a H g :=
  pointsTo_congr fun i hi => h i (mem_rowsSet.mp hi).1 (mem_rowsSet.mp hi).2

omit [FloatOps F] in
theorem piece_add (c : Dev nD) (a H H' : ℕ) (f : Out F) :
    (piece c a (H + H') f : sProp 𝕄) ⊣⊢ iprop(piece c a H f ∗ piece c (a + H) H' f) := by
  unfold piece; rw [rowsSet_add]; exact pointsTo_union (rowsSet_disjoint a H H')

omit [FloatOps F] in
theorem piece_all (c : Dev nD) (f : Out F) :
    (piece c 0 1024 f : sProp 𝕄) = (outM.view.loc (c : Thread nD τ) ↦{fullShare} f) := by
  unfold piece; rw [rowsSet_all]

omit [FloatOps F] in
/-- The rows a view of the result names, as a piece. -/
theorem piece_view (c : Dev nD) (f : Out F) :
    ((outSl H (at2 a) ho).view.loc (c : Thread nD τ) ↦[(outSl H (at2 a) ho).view.set]{fullShare} f : sProp 𝕄) = piece c a H f := by
  rw [out_set]; rfl

end Cert.KernelIdeal.Rings
-- ==== Proof.KI.Sched.lean ====
/- The cells of the rings, what each of their rounds hands over, and what each device owes at each point: the schedule
   under which the copies and the waits are proved. -/
module

public import proofs.«01_k».proof.Proof.KI.Res

@[expose] public section

noncomputable section

namespace Cert.KernelIdeal.Rings

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells -/

abbrev barCell (c : Dev nD) : GSem nD τ sig := ((c : Thread nD τ), .reg barSem)
abbrev sndCell (c : Dev nD) (l : Fin 4) (h : Fin 2) : GSem nD τ sig := ((c : Thread nD τ), .dma (sndSem l h))
abbrev rcvCell (c : Dev nD) (l : Fin 4) (n : Fin 6) (h : Fin 2) : GSem nD τ sig := ((c : Thread nD τ), .dma (rcvSem l n h))

/-- What a semaphore of the kernel is for. -/
inductive Role where
  | bar
  | snd (l : Fin 4) (h : Fin 2)
  | rcv (l : Fin 4) (n : Fin 6) (h : Fin 2)
  | other
deriving DecidableEq

/-- The role of a semaphore, read off its number. -/
def role : SemLoc sig → Role
  | .reg s => if s = barSem then .bar else .other
  | .dma q =>
    if q.val < 3 then .other
    else if q.val < 11 then .snd ⟨(q.val - 3) / 2 % 4, Nat.mod_lt _ (by decide)⟩ ⟨(q.val - 3) % 2, Nat.mod_lt _ (by decide)⟩
    else .rcv ⟨(q.val - 11) / 12 % 4, Nat.mod_lt _ (by decide)⟩ ⟨(q.val - 11) % 12 / 2 % 6, Nat.mod_lt _ (by decide)⟩
      ⟨(q.val - 11) % 2, Nat.mod_lt _ (by decide)⟩

theorem role_bar : role (.reg barSem) = .bar := by decide
theorem role_snd (l : Fin 4) (h : Fin 2) : role (.dma (sndSem l h)) = .snd l h := by revert l h; decide
theorem role_rcv (l : Fin 4) (n : Fin 6) (h : Fin 2) : role (.dma (rcvSem l n h)) = .rcv l n h := by revert l n h; decide

/-- The credit of one copy on the lane. -/
def NL (l : Fin 4) : ℕ := (slotM l 0 0).view.dmaCredit

theorem slot_credit (l : Fin 4) (n : Fin 3) (h : Fin 2) : (slotM l n h).view.dmaCredit = NL l := by
  match l with
  | 0 => rfl
  | 1 => rfl
  | 2 => rfl
  | 3 => rfl
theorem out_credit (l : Fin 4) (o : Fin 2 → ℕ) (ho : ∀ a, o a + (blkS (rows l)).size a ≤ S1024x1024.size a) :
    (outSl (rows l) o ho).view.dmaCredit = NL l := by
  match l with
  | 0 => rfl
  | 1 => rfl
  | 2 => rfl
  | 3 => rfl
theorem NL_pos (l : Fin 4) : 0 < NL l := View.dmaCredit_pos _ (by revert l; decide)

/-! ## What the rounds hand over -/

/-- The view of the rows lane `l` of device `c` copies at step `n`, half `h`. -/
abbrev rowM (c : Dev nD) (l : Fin 4) (n : ℕ) (h : Fin 2) : VM (blkS (rows l)) :=
  outSl (rows l) (at2 (row c l n h)) (at2_inb _ _ (row_le c l n h))

/-- A slot of a receive buffer, at any contents. -/
def slot (c : Dev nD) (l : Fin 4) (n : Fin 3) (h : Fin 2) : sProp 𝕄 :=
  iprop(∃ f, (slotM l n h).view.loc (c : Thread nD τ) ↦[(slotM l n h).view.set]{fullShare} f)

/-- Half `h`'s three slots of a lane's receive buffer. -/
def slots (c : Dev nD) (l : Fin 4) (h : Fin 2) : sProp 𝕄 := iprop(slot c l 0 h ∗ slot c l 1 h ∗ slot c l 2 h)

/-- The rows at step `m` of lane `l`, to be written over. -/
def room (c : Dev nD) (l : Fin 4) (m : ℕ) (h : Fin 2) : sProp 𝕄 := iprop(∃ f, piece c (row c l m h) (rows l) f)

/-- The rows a copy of step `n` brings along besides: rows of the sender the receiver's later copies will write. -/
def grants (s : Dev nD) (l : Fin 4) (n : ℕ) (h : Fin 2) : sProp 𝕄 :=
  if n = 2 then (if l.val % 2 = 0 then room s (opp l) 0 h else iprop(room s (opp l) 0 h ∗ room s (opp l) 1 h))
  else if n = 3 then (if l.val % 2 = 0 then iprop(room s (opp l) 1 h ∗ room s (opp l) 2 h) else room s (opp l) 2 h)
  else iprop(emp)

variable (P : Dev nD → Out F)

/-- What a barrier signal of lane `l` hands device `c`: the signaller's receive buffer of the other direction. -/
def barPay (c : Dev nD) (l : Fin 4) : sProp 𝕄 := iprop(slots (prv c l) (opp l) 0 ∗ slots (prv c l) (opp l) 1)

/-- What the own copy of step `n` gives back: the rows it read. -/
def sndPay (c : Dev nD) (l : Fin 4) (n : ℕ) (h : Fin 2) : sProp 𝕄 := piece c (row c l n h) (rows l) (cnt P l n c)

/-- What lands on device `c` at step `n`: in the receive buffer the sender's sum, or in the result the reduced rows. -/
def landed (c : Dev nD) (l : Fin 4) (n : Fin 6) (h : Fin 2) : sProp 𝕄 :=
  if hn : n.val < 3 then
    owns (c : Thread nD τ) (slotM l ⟨n.val, hn⟩ h) fullShare ((rowM c l (n.val + 1) h).view.read (Elt F) (cont P l n.val (prv c l)))
  else piece c (row c l (n.val + 1) h) (rows l) (fin P)

def rcvPay (c : Dev nD) (l : Fin 4) (n : Fin 6) (h : Fin 2) : sProp 𝕄 :=
  iprop(landed P c l n h ∗ grants (prv c l) l n.val h)

omit [FloatOps F] in
instance slot_storable (c : Dev nD) (l : Fin 4) (n : Fin 3) (h : Fin 2) : BI.Storable (upEmb : UEmb _ 𝕄) (slot (F := F) c l n h) := by
  unfold slot; infer_instance
omit [FloatOps F] in
instance slots_storable (c : Dev nD) (l : Fin 4) (h : Fin 2) : BI.Storable (upEmb : UEmb _ 𝕄) (slots (F := F) c l h) := by
  unfold slots; infer_instance
omit [FloatOps F] in
instance room_storable (c : Dev nD) (l : Fin 4) (m : ℕ) (h : Fin 2) : BI.Storable (upEmb : UEmb _ 𝕄) (room (F := F) c l m h) := by
  unfold room; infer_instance
omit [FloatOps F] in
instance grants_storable (s : Dev nD) (l : Fin 4) (n : ℕ) (h : Fin 2) : BI.Storable (upEmb : UEmb _ 𝕄) (grants (F := F) s l n h) := by
  unfold grants; (repeat' split) <;> infer_instance
omit [FloatOps F] in
instance barPay_storable (c : Dev nD) (l : Fin 4) : BI.Storable (upEmb : UEmb _ 𝕄) (barPay (F := F) c l) := by
  unfold barPay; infer_instance
instance sndPay_storable (c : Dev nD) (l : Fin 4) (n : ℕ) (h : Fin 2) : BI.Storable (upEmb : UEmb _ 𝕄) (sndPay P c l n h) := by
  unfold sndPay; infer_instance
instance landed_storable (c : Dev nD) (l : Fin 4) (n : Fin 6) (h : Fin 2) : BI.Storable (upEmb : UEmb _ 𝕄) (landed P c l n h) := by
  unfold landed; split <;> infer_instance
instance rcvPay_storable (c : Dev nD) (l : Fin 4) (n : Fin 6) (h : Fin 2) : BI.Storable (upEmb : UEmb _ 𝕄) (rcvPay P c l n h) := by
  unfold rcvPay; infer_instance

/-- The rounds: the barrier's one with a duty per lane, an own-copy semaphore's six, a landing's one. -/
def sched : Rounds.Schedule (GSem nD τ sig) (Fin 4) 𝕄 where
  duties g r := match role g.2 with
    | .bar => if r = 0 then Finset.univ else ∅
    | .snd _ _ => if r < 6 then {0} else ∅
    | .rcv _ _ _ => if r = 0 then {0} else ∅
    | .other => ∅
  unitless _ := False
  amount g _ _ := match role g.2 with
    | .bar => 1
    | .snd l _ => NL l
    | .rcv l _ _ => NL l
    | .other => 1
  payload g r d := match role g.2 with
    | .bar => barPay g.1.1 d
    | .snd l h => sndPay P g.1.1 l r h
    | .rcv l n h => rcvPay P g.1.1 l n h
    | .other => iprop(emp)
  amount_pos g _ _ _ := by
    split
    · exact Nat.one_pos
    · exact NL_pos _
    · exact NL_pos _
    · exact Nat.one_pos

instance sched_payload_storable (g : GSem nD τ sig) (r : ℕ) (d : Fin 4) :
    BI.Storable (upEmb : UEmb _ 𝕄) ((sched P).payload g r d) := by
  dsimp only [sched]; split <;> infer_instance

section Facts
variable (c : Dev nD) (l : Fin 4) (n : Fin 6) (h : Fin 2) (r : ℕ) (d : Fin 4)

theorem duties_bar : (sched P).duties (barCell c) 0 = Finset.univ := by dsimp only [sched]; rw [role_bar]; rfl
theorem duties_snd (hr : r < 6) : (sched P).duties (sndCell c l h) r = {0} := by
  dsimp only [sched]; rw [role_snd]; exact if_pos hr
theorem duties_rcv : (sched P).duties (rcvCell c l n h) 0 = {0} := by dsimp only [sched]; rw [role_rcv]; rfl
theorem later_bar : ∀ r, 1 ≤ r → (sched P).duties (barCell c) r = ∅ := fun r hr => by
  dsimp only [sched]; rw [role_bar]; exact if_neg (by omega)
theorem later_snd : ∀ r, 6 ≤ r → (sched P).duties (sndCell c l h) r = ∅ := fun r hr => by
  dsimp only [sched]; rw [role_snd]; exact if_neg (by omega)
theorem later_rcv : ∀ r, 1 ≤ r → (sched P).duties (rcvCell c l n h) r = ∅ := fun r hr => by
  dsimp only [sched]; rw [role_rcv]; exact if_neg (by omega)
theorem amount_bar : (sched P).amount (barCell c) r d = 1 := by dsimp only [sched]; rw [role_bar]
theorem amount_snd : (sched P).amount (sndCell c l h) r d = NL l := by dsimp only [sched]; rw [role_snd]
theorem amount_rcv : (sched P).amount (rcvCell c l n h) r d = NL l := by dsimp only [sched]; rw [role_rcv]
theorem payload_bar : (sched P).payload (barCell c) r d = barPay c d := by dsimp only [sched]; rw [role_bar]
theorem payload_snd : (sched P).payload (sndCell c l h) r d = sndPay P c l r h := by dsimp only [sched]; rw [role_snd]
theorem payload_rcv : (sched P).payload (rcvCell c l n h) r d = rcvPay P c l n h := by dsimp only [sched]; rw [role_rcv]

theorem expect_bar : (sched P).expect (barCell c) 0 = 4 := by
  unfold Schedule.expect Schedule.amountOf
  rw [duties_bar, Finset.sum_congr rfl fun d _ => amount_bar P c 0 d]; rfl
theorem expect_snd (hr : r < 6) : (sched P).expect (sndCell c l h) r = NL l := by
  unfold Schedule.expect Schedule.amountOf; rw [duties_snd P c l h r hr, Finset.sum_singleton, amount_snd]
theorem expect_rcv : (sched P).expect (rcvCell c l n h) 0 = NL l := by
  unfold Schedule.expect Schedule.amountOf; rw [duties_rcv, Finset.sum_singleton, amount_rcv]

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem rest_bar : bigSep ((sched P).duties (barCell c) 0 \ ∅) (fun d => (sched P).payload (barCell c) 0 d)
    = iprop(barPay c 0 ∗ barPay c 1 ∗ barPay c 2 ∗ barPay c 3) := by
  rw [Finset.sdiff_empty, duties_bar, bigSep_fin4, payload_bar, payload_bar, payload_bar, payload_bar]
theorem rest_snd (hr : r < 6) : bigSep ((sched P).duties (sndCell c l h) r \ ∅) (fun d => (sched P).payload (sndCell c l h) r d)
    = sndPay P c l r h := by
  rw [Finset.sdiff_empty, duties_snd P c l h r hr, bigSep_singleton, payload_snd]
theorem rest_rcv : bigSep ((sched P).duties (rcvCell c l n h) 0 \ ∅) (fun d => (sched P).payload (rcvCell c l n h) 0 d)
    = rcvPay P c l n h := by
  rw [Finset.sdiff_empty, duties_rcv, bigSep_singleton, payload_rcv]

end Facts

/-! ## What is owed, and the levels -/

/-- One thing a device owes: its barrier signal on a lane, or the landing of one copy. -/
abbrev Item : Type := Fin 4 ⊕ (Fin 4 × Fin 6 × Fin 2)

/-- Where the item is owed. -/
def itemCell (c : Dev nD) : Item → GSem nD τ sig
  | .inl l => barCell (nbr c l)
  | .inr (l, n, h) => rcvCell (nbr c l) l n h
def itemAmt : Item → ℕ
  | .inl _ => 1
  | .inr (l, _, _) => NL l

/-- The level of step `n` on a lane: the steps in the order in which the rings take them. -/
def lvl (l : Fin 4) (n : Fin 6) : ℕ := if l.val < 2 then (if n.val < 3 then 2 + n.val else 8 + n.val) else 5 + n.val
def itemLev : Item → ℕ
  | .inl _ => 1
  | .inr (l, n, _) => lvl l n

/-- What is owed for a list of items, the first one to be paid first. -/
def debt (c : Dev nD) : List Item → CellTallies nD τ sig Unit
  | [] => 0
  | x :: xs => debt c xs + tallyAt (itemCell c x) () (itemAmt x)

def L (g : GSem nD τ sig) : Finset Unit := if g.1.2 = .tc then {()} else ∅
def lv (g : GSem nD τ sig) (_ : Unit) : ℕ := match role g.2 with
  | .bar => 1
  | .snd _ _ => 0
  | .rcv l n _ => lvl l n
  | .other => 0

theorem L_of_ne (g : GSem nD τ sig) (h : g.1.2 ≠ .tc) : L g = ∅ := if_neg h
theorem L_tc (c : Dev nD) (sm : SemLoc sig) : L ((c : Thread nD τ), sm) = {()} := if_pos rfl

theorem L_item (c : Dev nD) (x : Item) : L (itemCell c x) = {()} := by
  rcases x with l | ⟨l, n, h⟩ <;> exact if_pos rfl
theorem lv_item (c : Dev nD) (x : Item) : lv (itemCell c x) () = itemLev x := by
  rcases x with l | ⟨l, n, h⟩
  · dsimp only [lv, itemCell, itemLev]; rw [role_bar]
  · dsimp only [lv, itemCell, itemLev]; rw [role_rcv]

theorem debt_pos {c : Dev nD} {g : GSem nD τ sig} {u : Unit} : ∀ {ls : List Item}, 0 < debt c ls g u → ∃ x ∈ ls, g = itemCell c x
  | [], h => absurd h (Nat.lt_irrefl 0)
  | x :: xs, h => by
    unfold debt at h
    rw [Pi.add_apply, Finsupp.add_apply, tallyAt_apply] at h
    by_cases hg : g = itemCell c x
    · exact ⟨x, List.mem_cons_self, hg⟩
    · rw [if_neg (fun h' => hg h'.1), Nat.add_zero] at h
      obtain ⟨y, hy, e⟩ := debt_pos h
      exact ⟨y, List.mem_cons_of_mem _ hy, e⟩

/-- Every item of the list is above the level. -/
def Above (k : ℕ) (ls : List Item) : Prop := ∀ x ∈ ls, k < itemLev x

instance (k : ℕ) (ls : List Item) : Decidable (Above k ls) := by unfold Above; infer_instance

omit [FloatOps F] in
/-- A device may wait where everything it owes is above the cell it waits on. -/
theorem mayWait (c : Dev nD) (sm : SemLoc sig) (ls : List Item) (h : Above (lv ((c : Thread nD τ), sm) ()) ls) :
    (levAts L lv : sProp 𝕄) ⊢ MayWait (c : Thread nD τ) sm () (debt c ls) :=
  MayOwe.of_cut (L := L) (lev := lv) (lv ((c : Thread nD τ), sm) ())
    (fun p hp => by rw [Finset.mem_singleton.mp hp, L_tc]; exact Finset.mem_singleton_self _)
    (fun g u hg => by obtain ⟨x, _, rfl⟩ := debt_pos hg; rw [L_item]; exact Finset.mem_singleton_self _)
    (fun p hp => by rw [Finset.mem_singleton.mp hp])
    (fun g u hg => by obtain ⟨x, hx, rfl⟩ := debt_pos hg; rw [lv_item]; exact h x hx)

theorem lv_bar (c : Dev nD) : lv (barCell c) () = 1 := by dsimp only [lv]; rw [role_bar]
theorem lv_snd (c : Dev nD) (l : Fin 4) (h : Fin 2) : lv (sndCell c l h) () = 0 := by dsimp only [lv]; rw [role_snd]
theorem lv_rcv (c : Dev nD) (l : Fin 4) (n : Fin 6) (h : Fin 2) : lv (rcvCell c l n h) () = lvl l n := by
  dsimp only [lv]; rw [role_rcv]

theorem itemLev_pos (x : Item) : 0 < itemLev x := by
  rcases x with l | ⟨l, n, h⟩
  · exact Nat.one_pos
  · dsimp only [itemLev, lvl]; (repeat' split) <;> omega
theorem above_zero (ls : List Item) : Above 0 ls := fun x _ => itemLev_pos x

/-! ## The order of the copies -/

/-- The two copies of step `n`, half `h`, on ring `r`. -/
def pr (r : Fin 2) (n : Fin 6) (h : Fin 2) : List Item := [.inr (laneOf r 0, n, h), .inr (laneOf r 1, n, h)]
/-- The copies of one phase of a ring. -/
def phL (r : Fin 2) (a b c : Fin 6) : List Item := pr r a 0 ++ pr r a 1 ++ pr r b 0 ++ pr r b 1 ++ pr r c 0 ++ pr r c 1
/-- All copies, in the order of the program. -/
def copies : List Item := phL 0 0 1 2 ++ phL 1 0 1 2 ++ phL 1 3 4 5 ++ phL 0 3 4 5
/-- All that is owed at the start: the four signals, then the copies. -/
def items : List Item := [.inl 0, .inl 1, .inl 2, .inl 3] ++ copies

theorem lvl_dir (r : Fin 2) (n : Fin 6) : lvl (laneOf r 1) n = lvl (laneOf r 0) n := by revert r n; decide

theorem above_pr {k : ℕ} {ls : List Item} (r : Fin 2) (n : Fin 6) (h : Fin 2) (hk : k < lvl (laneOf r 0) n) (hl : Above k ls) :
    Above k (pr r n h ++ ls) := by
  intro x hx
  rcases List.mem_append.mp hx with hx | hx
  · have e : itemLev x = lvl (laneOf r 0) n := by
      unfold pr at hx
      rcases List.mem_cons.mp hx with rfl | hx
      · rfl
      · rw [List.mem_singleton.mp hx]; exact lvl_dir r n
    rw [e]; exact hk
  · exact hl x hx

end Cert.KernelIdeal.Rings
-- ==== Proof.KI.Local.lean ====
/- The blocks of the program that touch a device's own memory: a gemm block and an accumulation, each as one step from
   the pieces it needs to the pieces it leaves. -/
module

public import proofs.«01_k».proof.Proof.KI.Sched
public import Idealize.ShloMosaic.Lib.Pipeline.Value

@[expose] public section

noncomputable section

namespace Cert.KernelIdeal.Rings

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program of the kernel, run on device `c`. -/
abbrev WP (c : Dev nD) (p : KProg (F := F)) (Q : PUnit → sProp 𝕄) : sProp 𝕄 :=
  wp frame (wpE (defs₀ (F := F)) 𝒱₀ (c : Thread nD τ) none) Set.univ p Q

/-- A block's specification used at the head of a longer program. -/
theorem wp_block {c : Dev nD} {A B : sProp 𝕄} {p : KProg (F := F)} (hp : A ⊢ WP c p fun _ => B)
    {k : PUnit → KProg (F := F)} {Q : PUnit → sProp 𝕄} : A ⊢ iprop((B -∗ WP c (k ⟨⟩) Q) -∗ WP c (p >>= k) Q) := by
  rw [show WP c (p >>= k) Q = wp frame (wpE (defs₀ (F := F)) 𝒱₀ (c : Thread nD τ) none) Set.univ p (fun a => WP c (k a) Q) from
    wp_bind _ _ _ p k Q]
  iintro HA Hk
  iapply (wp_mono frame (wpE (defs₀ (F := F)) 𝒱₀ (c : Thread nD τ) none) Set.univ
    (Q := fun _ => iprop(B ∗ (B -∗ WP c (k ⟨⟩) Q))) (fun a => by
      iintro ⟨HB, Hk⟩
      iapply Hk; iexact HB))
  iapply (wp_frame_r frame (wpE (defs₀ (F := F)) 𝒱₀ (c : Thread nD τ) none) Set.univ)
  isplitl [HA]
  · iapply hp; iexact HA
  · iexact Hk

/-- A block's specification used at the end of a program. -/
theorem wp_last {c : Dev nD} {A B : sProp 𝕄} {p : KProg (F := F)} (hp : A ⊢ WP c p fun _ => B)
    {Q : PUnit → sProp 𝕄} : A ⊢ iprop((B -∗ Q ⟨⟩) -∗ WP c p Q) := by
  iintro HA Hk
  iapply (wp_mono frame (wpE (defs₀ (F := F)) 𝒱₀ (c : Thread nD τ) none) Set.univ
    (Q := fun _ => iprop(B ∗ (B -∗ Q ⟨⟩))) (fun a => by
      iintro ⟨HB, Hk⟩
      iapply Hk; iexact HB))
  iapply (wp_frame_r frame (wpE (defs₀ (F := F)) 𝒱₀ (c : Thread nD τ) none) Set.univ)
  isplitl [HA]
  · iapply hp; iexact HA
  · iexact Hk

/-! ## Accumulation -/

omit [FloatOps F] in
theorem slotM_access (c : Dev nD) (l : Fin 4) (n : Fin 3) (h : Fin 2) (f : Buf (Elt F) ((slotM l n h).view.loc (c : Thread nD τ))) :
    ((slotM l n h).view.loc (c : Thread nD τ) ↦[(slotM l n h).view.set]{fullShare} f : sProp 𝕄)
      = (((bufM l).access (slotR l n h)).loc (c : Thread nD τ) ↦[((bufM l).access (slotR l n h)).set]{fullShare} f) := by
  rw [show (slotM l n h).view.set = ((bufM l).access (slotR l n h)).set from View.set_reshape _ _]
  rfl

/-- What an accumulation leaves: the own rows plus the landed ones. -/
theorem acc_written (l : Fin 4) (n : Fin 3) (h : Fin 2) (a : ℕ) (ho : ∀ k, at2 a k + (blkS (rows l)).size k ≤ S1024x1024.size k)
    (f g : Out F) (y : (slotM l n h).view.ty.Contents (Elt F))
    (hy : (slotM l n h).view.read (Elt F) y = (outSl (rows l) (at2 a) ho).view.read (Elt F) g)
    (i : S1024x1024.Idx) (hi : i ∈ rowsSet a (rows l)) :
    (outM.access (outR (rows l) (at2 a) ho)).write (Elt F) f
      (accV l ((outM.access (outR (rows l) (at2 a) ho)).read (Elt F) f) (((bufM l).access (slotR l n h)).read (Elt F) y)) Finset.univ i
      = addf f g i := by
  rw [← out_set (rows l) a ho] at hi
  obtain ⟨j, _, rfl⟩ := Finset.mem_map.mp hi
  refine (View.write_emb_of_mem (v := outM.access (outR (rows l) (at2 a) ho)) f _ (Finset.mem_univ j)).trans ?_
  show FloatOps.addf _ _ = FloatOps.addf _ _
  refine congrArg₂ FloatOps.addf ?_ ?_
  · exact congrFun (shapeCast_self _ _) j
  · exact congrFun hy j

/-- Adding slot `(n, h)` of the lane, holding rows of `g`, to the own rows at `a`. -/
theorem acc_wp (c : Dev nD) (l : Fin 4) (n : Fin 3) (h : Fin 2) (a : ℕ) (ho : ∀ k, at2 a k + (blkS (rows l)).size k ≤ S1024x1024.size k)
    (f g : Out F) :
    iprop(piece c a (rows l) f ∗ owns (c : Thread nD τ) (slotM l n h) fullShare ((outSl (rows l) (at2 a) ho).view.read (Elt F) g))
      ⊢ (WP c (accP l n h (at2 a) ho) fun _ => iprop(piece c a (rows l) (addf f g) ∗ slot c l n h) : sProp 𝕄) := by
  unfold owns accP
  iintro ⟨Hp, ⟨%y, %hy, Hs⟩⟩
  simp only [Prog.lift, Prog.bind_op, Prog.bind_ret, Prog.pure_eq_ret]
  ihave Hp := (Entails.of_eq (piece_view (rows l) a ho c f).symm) $$ Hp
  ihave Hs := (Entails.of_eq (slotM_access c l n h y)) $$ Hs
  iapply (wp_load_rect 𝒱₀ (c : Thread nD τ) none Set.univ (m := outM) (r := outR (rows l) (at2 a) ho) (Finset.Subset.refl _)) $$ Hp; iintro Hp
  iapply (wp_load_rect 𝒱₀ (c : Thread nD τ) none Set.univ (m := bufM l) (r := slotR l n h) (f := y) (S := ((bufM l).access (slotR l n h)).set) (Finset.Subset.refl _)) $$ Hs; iintro Hs
  iapply (wp_load_rect 𝒱₀ (c : Thread nD τ) none Set.univ (m := outM) (r := outR (rows l) (at2 a) ho) (Finset.Subset.refl _)) $$ Hp; iintro Hp
  iapply (wp_store 𝒱₀ (c : Thread nD τ) none Set.univ (m := outM) (r := outR (rows l) (at2 a) ho) (Mk := Finset.univ) (f := f) (S := (outM.access (outR (rows l) (at2 a) ho)).set) (Finset.Subset.refl _)) $$ Hp; iintro Hp
  rw [wp_ret]; imodintro
  isplitl [Hp]
  · ihave Hp := (Entails.of_eq (piece_view (rows l) a ho c _)) $$ Hp
    iapply (Entails.of_eq (piece_congr c (H := rows l) (a := a) fun i h₁ h₂ => acc_written l n h a ho f g y hy i (mem_rowsSet.mpr ⟨h₁, h₂⟩)))
    iexact Hp
  · unfold slot; iexists y
    iapply (Entails.of_eq (slotM_access c l n h y).symm); iexact Hs

/-! ## A gemm block -/

/-- What a gemm block leaves: the chunk's rows of the partial product. -/
theorem gemm_written (x w : Vec F S1024x4096 .f32) (f : Out F) (k : Fin 8)
    (ha : ∀ j, at2 (128 * k.val) j + S128x4096.size j ≤ S1024x4096.size j)
    (ho : ∀ j, at2 (128 * k.val) j + (blkS 128).size j ≤ S1024x1024.size j)
    (i : S1024x1024.Idx) (hi : i ∈ rowsSet (128 * k.val) 128) :
    (outM.access (outR 128 (at2 (128 * k.val)) ho)).write (Elt F) f
      (gemmV ((dyM.access (Rect.unit (s := S1024x4096) (at2 (128 * k.val)) S128x4096.size ha)).read (Elt F) x) ((wM.access wR).read (Elt F) w)) Finset.univ i
      = part x w i := by
  rw [← out_set 128 (128 * k.val) ho] at hi
  obtain ⟨j, _, rfl⟩ := Finset.mem_map.mp hi
  refine (View.write_emb_of_mem (v := outM.access (outR 128 (at2 (128 * k.val)) ho)) f _ (Finset.mem_univ j)).trans ?_
  have e0 := out_emb0 128 (128 * k.val) ho j
  have e1 := out_emb1 128 (128 * k.val) ho j
  have hj : (j 0).val < 128 := (j 0).isLt
  have c1 : chunkOf ((outSl 128 (at2 (128 * k.val)) ho).view.emb j) = k := Fin.ext (by show (((outSl 128 (at2 (128 * k.val)) ho).view.emb j 0 : ℕ)) / 128 = k.val; omega)
  have c2 : inChunk ((outSl 128 (at2 (128 * k.val)) ho).view.emb j) = j := funext fun b => by
    match b with
    | 0 => exact Fin.ext (by show (((outSl 128 (at2 (128 * k.val)) ho).view.emb j 0 : ℕ)) % 128 = (j 0).val; omega)
    | 1 => exact Fin.ext e1
  unfold part; rw [c1, c2]; rfl

/-- The operands device `c` holds. -/
def opnds (c : Dev nD) (x w : Vec F S1024x4096 .f32) : sProp 𝕄 :=
  iprop((dyM.view.loc (c : Thread nD τ) ↦{fullShare} x) ∗ (wM.view.loc (c : Thread nD τ) ↦{fullShare} w))

/-- A gemm block, its offsets computed as `o₁`, `o₂`. -/
theorem gemm_wp (c : Dev nD) (x w : Vec F S1024x4096 .f32) (f : Out F) (k : Fin 8) (o₁ o₂ : Fin 2 → ℕ)
    (ha : ∀ j, o₁ j + S128x4096.size j ≤ S1024x4096.size j) (ho : ∀ j, o₂ j + S128x1024.size j ≤ S1024x1024.size j)
    (h₁ : o₁ = at2 (128 * k.val)) (h₂ : o₂ = at2 (128 * k.val)) :
    iprop(opnds c x w ∗ piece c (128 * k.val) 128 f)
      ⊢ (WP c (gemmP o₁ ha o₂ ho) fun _ => iprop(opnds c x w ∗ piece c (128 * k.val) 128 (part x w)) : sProp 𝕄) := by
  subst h₁ h₂
  unfold opnds gemmP
  iintro ⟨⟨Hx, Hw⟩, Hp⟩
  simp only [Prog.lift, Prog.bind_op, Prog.bind_ret, Prog.pure_eq_ret]
  ihave Hp := (Entails.of_eq (piece_view 128 (128 * k.val) ho c f).symm) $$ Hp
  iapply (wp_load_rect 𝒱₀ (c : Thread nD τ) none Set.univ (m := dyM) (r := Rect.unit (s := S1024x4096) (at2 (128 * k.val)) S128x4096.size ha) (Finset.subset_univ _)) $$ Hx; iintro Hx
  iapply (wp_load_rect 𝒱₀ (c : Thread nD τ) none Set.univ (m := wM) (r := wR) (Finset.subset_univ _)) $$ Hw; iintro Hw
  iapply (wp_load_rect 𝒱₀ (c : Thread nD τ) none Set.univ (m := outM) (r := outR 128 (at2 (128 * k.val)) ho) (Finset.Subset.refl _)) $$ Hp; iintro Hp
  iapply (wp_store 𝒱₀ (c : Thread nD τ) none Set.univ (m := outM) (r := outR 128 (at2 (128 * k.val)) ho) (Mk := Finset.univ) (f := f) (S := (outM.access (outR 128 (at2 (128 * k.val)) ho)).set) (Finset.Subset.refl _)) $$ Hp; iintro Hp
  rw [wp_ret]; imodintro
  isplitl [Hx Hw]
  · isplitl [Hx]; · iexact Hx
    iexact Hw
  ihave Hp := (Entails.of_eq (piece_view 128 (128 * k.val) ho c _)) $$ Hp
  iapply (Entails.of_eq (piece_congr c (H := 128) (a := 128 * k.val) fun i h₁ h₂ => gemm_written x w f k ha ho i (mem_rowsSet.mpr ⟨h₁, h₂⟩)))
  iexact Hp

end Cert.KernelIdeal.Rings
-- ==== Proof.KI.Remote.lean ====
/- The blocks of the program that reach other devices: the start of a copy and the waits, each as one step from the
   resources it needs to the resources it leaves. -/
module

public import proofs.«01_k».proof.Proof.KI.Local

@[expose] public section

set_option maxRecDepth 20000

noncomputable section

namespace Cert.KernelIdeal.Rings

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells by name -/

/-- A lane's half and a number: below six the landing of that step, six the own copies. -/
abbrev Slot7 : Type := Fin 4 × Fin 2 × Fin 7
/-- A cell of a device: its barrier, or one of its copy semaphores. -/
abbrev Key : Type := Unit ⊕ Slot7

def semOf (q : Slot7) : DmaSem sig := if h : q.2.2.val < 6 then rcvSem q.1 ⟨q.2.2.val, h⟩ q.2.1 else sndSem q.1 q.2.1

def locOf : Key → SemLoc sig
  | .inl _ => .reg barSem
  | .inr q => .dma (semOf q)
def keyCell (ck : Dev nD × Key) : GSem nD τ sig := ((ck.1 : Thread nD τ), locOf ck.2)

def sndKey (l : Fin 4) (h : Fin 2) : Key := .inr (l, h, 6)
def rcvKey (l : Fin 4) (n : Fin 6) (h : Fin 2) : Key := .inr (l, h, ⟨n.val, by omega⟩)

theorem key_bar (c : Dev nD) : keyCell (c, .inl ()) = barCell c := rfl
theorem key_snd (c : Dev nD) (l : Fin 4) (h : Fin 2) : keyCell (c, sndKey l h) = sndCell c l h := rfl
theorem key_rcv (c : Dev nD) (l : Fin 4) (n : Fin 6) (h : Fin 2) : keyCell (c, rcvKey l n h) = rcvCell c l n h := by
  have e : semOf (l, h, ⟨n.val, by omega⟩) = rcvSem l n h := dif_pos n.isLt
  show ((c : Thread nD τ), SemLoc.dma (semOf (l, h, ⟨n.val, by omega⟩))) = _
  rw [e]

variable (P : Dev nD → Out F) (K : Dev nD × Key → ℕ)

/-- What every device knows: every cell's invariant, that every cell has reached its first round, the levels. -/
def env : sProp 𝕄 :=
  iprop((bigSep Finset.univ fun ck : Dev nD × Key => cellInv ER (sched P) (K ck) (keyCell ck))
    ∗ (bigSep Finset.univ fun ck : Dev nD × Key => reached ER (keyCell ck) 0) ∗ levAts L lv)

instance env_persistent : BI.Persistent (env P K) := by unfold env; infer_instance

theorem env_inv (ck : Dev nD × Key) : env P K ⊢ cellInv ER (sched P) (K ck) (keyCell ck) := by
  unfold env; exact sep_elim_left.trans (bigSep_elim (Finset.mem_univ ck))
theorem env_reached (ck : Dev nD × Key) : env P K ⊢ reached ER (keyCell ck) 0 := by
  unfold env; exact sep_elim_right.trans (sep_elim_left.trans (bigSep_elim (Finset.mem_univ ck)))
theorem env_lev : env P K ⊢ (levAts L lv : sProp 𝕄) := by
  unfold env; iintro ⟨-, -, H⟩; iexact H

theorem inv_bar (c : Dev nD) : env P K ⊢ cellInv ER (sched P) (K (c, .inl ())) (barCell c) := env_inv P K (c, .inl ())
theorem inv_snd (c : Dev nD) (l : Fin 4) (h : Fin 2) : env P K ⊢ cellInv ER (sched P) (K (c, sndKey l h)) (sndCell c l h) :=
  env_inv P K (c, sndKey l h)
theorem inv_rcv (c : Dev nD) (l : Fin 4) (n : Fin 6) (h : Fin 2) :
    env P K ⊢ cellInv ER (sched P) (K (c, rcvKey l n h)) (rcvCell c l n h) := by
  have := env_inv P K (c, rcvKey l n h); rwa [key_rcv] at this
theorem reached_bar (c : Dev nD) : env P K ⊢ reached ER (barCell c) 0 := env_reached P K (c, .inl ())
theorem reached_snd (c : Dev nD) (l : Fin 4) (h : Fin 2) : env P K ⊢ reached ER (sndCell c l h) 0 := env_reached P K (c, sndKey l h)
theorem reached_rcv (c : Dev nD) (l : Fin 4) (n : Fin 6) (h : Fin 2) : env P K ⊢ reached ER (rcvCell c l n h) 0 := by
  have := env_reached P K (c, rcvKey l n h); rwa [key_rcv] at this

/-! ## The pieces of a lane's ghost state -/

/-- The device owes the items of the list. -/
def owing (c : Dev nD) (ls : List Item) : sProp 𝕄 := iprop(∃ W, owes (c : Thread nD τ) (debt c ls) W)

/-- The right to make the copy of step `n`: its two duties. -/
def toks (c : Dev nD) (l : Fin 4) (n : Fin 6) (h : Fin 2) : sProp 𝕄 :=
  iprop(dutyTok ER (sndCell c l h) n.val 0 ∗ dutyTok ER (rcvCell (nbr c l) l n h) 0 0)
/-- The right to wait for the landing of step `n`. -/
def wt (c : Dev nD) (l : Fin 4) (n : Fin 6) (h : Fin 2) : sProp 𝕄 :=
  iprop(cred (tallyAt (rcvCell c l n h) () (NL l)) ∗ atPos ER (rcvCell c l n h) 0 ∅ 0)
/-- The own copies of the lane are at step `n`. -/
def atS (c : Dev nD) (l : Fin 4) (n : ℕ) (h : Fin 2) : sProp 𝕄 :=
  iprop(atPos ER (sndCell c l h) n ∅ 0 ∗ reached ER (sndCell c l h) n)
/-- The copy of step `n` is under way, its counterpart to come. -/
def fly (c : Dev nD) (l : Fin 4) (n : Fin 6) (h : Fin 2) : sProp 𝕄 :=
  iprop(wt c l n h ∗ cred (tallyAt (sndCell c l h) () (NL l)) ∗ atS c l n.val h)
/-- Where the copy of step `n` will land on the neighbour. -/
def dst (c : Dev nD) (l : Fin 4) (n : Fin 6) (h : Fin 2) : sProp 𝕄 :=
  if hn : n.val < 3 then slot (nbr c l) l ⟨n.val, hn⟩ h else room (nbr c l) l (n.val - 3) h
/-- The landing of step `n` has been waited for. -/
def got (c : Dev nD) (l : Fin 4) (n : Fin 6) (h : Fin 2) : sProp 𝕄 := atPos ER (rcvCell c l n h) 1 ∅ 0

/-! ## Starting a copy -/

omit [FloatOps F] in
theorem outSl_congr (H : ℕ) {a a' : ℕ} (e : a = a') (h : ∀ k, at2 a k + (blkS H).size k ≤ S1024x1024.size k)
    (h' : ∀ k, at2 a' k + (blkS H).size k ≤ S1024x1024.size k) : outSl H (at2 a) h = outSl H (at2 a') h' := by
  subst e; rfl

omit [FloatOps F] in
theorem read_congr (H : ℕ) {a a' : ℕ} (e : a = a') (h : ∀ k, at2 a k + (blkS H).size k ≤ S1024x1024.size k)
    (h' : ∀ k, at2 a' k + (blkS H).size k ≤ S1024x1024.size k) (f : Out F) :
    (outSl H (at2 a) h).view.read (Elt F) f = (outSl H (at2 a') h').view.read (Elt F) f := by
  subst e; rfl

/-- What a copy into a slot of the neighbour hands over there. -/
theorem slot_landed (c : Dev nD) (l : Fin 4) (n : Fin 6) (hn : n.val < 3) (h : Fin 2)
    (fd : Buf (Elt F) ((slotM l ⟨n.val, hn⟩ h).view.loc (nbr c l : Thread nD τ))) :
    ((slotM l ⟨n.val, hn⟩ h).view.loc (nbr c l : Thread nD τ) ↦[(slotM l ⟨n.val, hn⟩ h).view.set]{fullShare}
        ((slotM l ⟨n.val, hn⟩ h).view.write (Elt F) fd ((rowM c l n.val h).view.read (Elt F) (cont P l n.val c)) Finset.univ))
      ⊢ (landed P (nbr c l) l n h : sProp 𝕄) := by
  unfold landed
  rw [dif_pos hn, prv_nbr]
  have e : (rowM (nbr c l) l (n.val + 1) h).view.read (Elt F) (cont P l n.val c) = (rowM c l n.val h).view.read (Elt F) (cont P l n.val c) :=
    read_congr _ (row_nbr c l n.val (by omega) h).symm _ _ _
  refine BIBase.Entails.trans ?_ (Entails.of_eq (congrArg (owns (nbr c l : Thread nD τ) (slotM l ⟨n.val, hn⟩ h) fullShare) e.symm))
  refine (owns_intro (nbr c l : Thread nD τ) (slotM l ⟨n.val, hn⟩ h) fullShare _).trans ?_
  rw [View.read_write_univ]

/-- What a copy into rows of the neighbour hands over there. -/
theorem rows_landed (c : Dev nD) (l : Fin 4) (n : Fin 6) (hn : ¬ n.val < 3) (h : Fin 2) (fd : Out F) :
    ((rowM c l n.val h).view.loc (nbr c l : Thread nD τ) ↦[(rowM c l n.val h).view.set]{fullShare}
        ((rowM c l n.val h).view.write (Elt F) fd ((rowM c l n.val h).view.read (Elt F) (fin P)) Finset.univ))
      ⊢ (landed P (nbr c l) l n h : sProp 𝕄) := by
  unfold landed
  rw [dif_neg hn, ← row_nbr c l n.val (by omega), piece_view]
  exact Entails.of_eq (piece_congr _ fun i h₁ h₂ => out_write_read _ _ _ _ _ i (mem_rowsSet.mpr ⟨h₁, h₂⟩))

/-- Starting the copy of step `n`, half `h`, on a lane. -/
theorem start_wp (c : Dev nD) (l : Fin 4) (n : Fin 6) (h : Fin 2) (ls : List Item) :
    iprop(env P K ∗ piece c (row c l n.val h) (rows l) (cnt P l n.val c) ∗ toks c l n h ∗ wt c l n h ∗ dst c l n h
        ∗ grants c l n.val h ∗ atS c l n.val h ∗ owing c (.inr (l, n, h) :: ls))
      ⊢ (WP c (startP c l n h) fun _ => iprop(fly c l n h ∗ owing c ls) : sProp 𝕄) := by
  have hsend : ∀ (t : Dev nD) (ht : t = nbr c l) (o : Fin 2 → ℕ) (ho : ∀ a, o a + (blkS (rows l)).size a ≤ S1024x1024.size a)
      (hoe : o = at2 (row c l n.val h)) (d : VM (blkS (rows l))) (hd : d.view.dmaCredit = NL l)
      (hl : ∀ fd, iprop((d.view.loc (nbr c l : Thread nD τ) ↦[d.view.set]{fullShare}
          (d.view.write (Elt F) fd ((rowM c l n.val h).view.read (Elt F) (cnt P l n.val c)) Finset.univ)))
          ⊢ (landed P (nbr c l) l n h : sProp 𝕄)),
      iprop(env P K ∗ piece c (row c l n.val h) (rows l) (cnt P l n.val c) ∗ toks c l n h ∗ wt c l n h
          ∗ (∃ fd, d.view.loc (nbr c l : Thread nD τ) ↦[d.view.set]{fullShare} fd)
          ∗ grants c l n.val h ∗ atS c l n.val h ∗ owing c (.inr (l, n, h) :: ls))
        ⊢ (WP c (sendP (sndSem l h) (rcvSem l n h) t (outSl (rows l) o ho) d) fun _ => iprop(fly c l n h ∗ owing c ls) : sProp 𝕄) := by
    intro t ht o ho hoe d hd hl
    subst ht hoe
    unfold toks atS owing sendP Prog.lift
    iintro ⟨#HE, Hp, ⟨Ht1, Ht2⟩, Hw, ⟨%fd, Hd⟩, Hg, ⟨Hat, #Hr⟩, ⟨%W, Ho⟩⟩
    ihave Hp := (Entails.of_eq (piece_view (rows l) (row c l n.val h) ho c _).symm) $$ Hp
    iapply (Rounds.wp_send_pointsTo_with 𝒱₀ ER (sched P) (c : Thread nD τ) none (c' := (nbr c l : Thread nD τ)) (κ₁ := K (c, sndKey l h))
      (κ₂ := K (nbr c l, rcvKey l n h)) (r₁ := n.val) (r₂ := 0) (d₁ := 0) (d₂ := 0) (fs := cnt P l n.val c) (fd := fd) (F := grants c l n.val h)
      (src := outSl (rows l) (at2 (row c l n.val h)) ho) (dst := d)
      (by rw [duties_snd P c l h n.val n.isLt]; exact Finset.mem_singleton_self _) (by rw [duties_rcv]; exact Finset.mem_singleton_self _)
      () () (NL l) (by exact hd) (amount_snd P c l h n.val 0) (amount_rcv P (nbr c l) l n h 0 0) (debt c ls) rfl (W := W)
      (by rw [payload_snd]; unfold sndPay; rw [piece_view])
      (by
        rw [payload_rcv]; unfold rcvPay; rw [prv_nbr]
        exact sep_mono_left (hl fd))) $$ [Hp Ht1 Ht2 Hd Hg Ho]
    · isplitr; · iapply (inv_snd P K c l h); iexact HE
      isplitr; · iapply (inv_rcv P K (nbr c l) l n h); iexact HE
      isplitl [Hp]; · iexact Hp
      isplitl [Hd Hg]
      · isplitl [Hd]; · iexact Hd
        iexact Hg
      isplitl [Ho]; · iexact Ho
      isplitl [Ht1]; · iexact Ht1
      isplitr; · iexact Hr
      isplitl [Ht2]; · iexact Ht2
      iapply (reached_rcv P K (nbr c l) l n h); iexact HE
    iintro ⟨Hc, Ho⟩
    rw [wp_ret]; imodintro
    unfold fly atS
    isplitl [Hw Hc Hat]
    · isplitl [Hw]; · iexact Hw
      isplitl [Hc]; · iexact Hc
      isplitl [Hat]; · iexact Hat
      iexact Hr
    iexists W; iexact Ho
  unfold startP dst
  by_cases hn : n.val < 3
  · rw [dif_pos hn, dif_pos hn]
    unfold slot
    refine hsend _ (nbrK_eq c l) _ (srcK c l n h).ho (srcK_o c l n h) (slotM l ⟨n.val, hn⟩ h) (slot_credit l _ h) ?_
    intro fd
    unfold cnt; rw [if_pos hn]
    exact slot_landed P c l n hn h fd
  · rw [dif_neg hn, dif_neg hn]
    have key := hsend _ (nbrK_eq c l) _ (srcK c l n h).ho (srcK_o c l n h) (rowM c l n.val h) (out_credit l _ _) (by
      intro fd
      unfold cnt; rw [if_neg hn]
      exact rows_landed P c l n hn h fd)
    have eo : outSl (rows l) (srcK c l n h).o (srcK c l n h).ho = rowM c l n.val h := by
      have : ∀ (o : Fin 2 → ℕ) (ho : ∀ a, o a + (blkS (rows l)).size a ≤ S1024x1024.size a), o = at2 (row c l n.val h) →
        outSl (rows l) o ho = rowM c l n.val h := fun o ho e => by subst e; rfl
      exact this _ _ (srcK_o c l n h)
    rw [eo] at key ⊢
    refine BIBase.Entails.trans ?_ key
    refine sep_mono_right (sep_mono_right (sep_mono_right (sep_mono_right (sep_mono_left ?_))))
    unfold room
    have er : row (nbr c l) l (n.val - 3) h = row c l n.val h := by
      rw [← row_grant c l (n.val - 3) (by omega), show n.val - 3 + 3 = n.val by omega]
    rw [er]
    iintro ⟨%f, H⟩
    iexists f
    iapply (Entails.of_eq (piece_view (rows l) (row c l n.val h) _ (nbr c l) f).symm); iexact H

/-! ## Waiting -/

/-- Waiting for the landing of step `n`. -/
theorem waitRcv_wp (c : Dev nD) (l : Fin 4) (n : Fin 6) (h : Fin 2) (ls : List Item) (ha : Above (lvl l n) ls)
    {s : Shape} (src d : VM s) (hd : d.view.dmaCredit = NL l) :
    iprop(env P K ∗ wt c l n h ∗ owing c ls)
      ⊢ (WP c (waitP (rcvSem l n h) src d) fun _ => iprop(got c l n h ∗ rcvPay P c l n h ∗ owing c ls) : sProp 𝕄) := by
  have hab : (levAts L lv : sProp 𝕄) ⊢ MayWait (c : Thread nD τ) (.dma (rcvSem l n h)) () (debt c ls) := by
    have e : lv ((c : Thread nD τ), SemLoc.dma (rcvSem l n h)) () = lvl l n := lv_rcv c l n h
    exact mayWait c (.dma (rcvSem l n h)) ls (by rw [e]; exact ha)
  unfold wt owing waitP Prog.lift got
  iintro ⟨#HE, ⟨Hc, Hat⟩, ⟨%W, Ho⟩⟩
  rw [← hd]
  iapply (Rounds.wp_wait_rest_token 𝒱₀ ER (sched P) (c : Thread nD τ) none (κ := K (c, rcvKey l n h))
      (wpE_waitDma2_eq 𝒱₀ (c : Thread nD τ) none Set.univ) (Set.mem_univ _) () (O := debt c ls) (W := W) (R := 0) (m := 0) (T := ∅)
      (by rw [Nat.zero_add, expect_rcv, hd])) $$ [Hc Ho Hat]
  · isplitr; · iapply (inv_rcv P K c l n h); iexact HE
    isplitl [Hc]; · iexact Hc
    isplitl [Ho]; · iexact Ho
    isplitr; · iapply ((env_lev P K).trans hab); iexact HE
    iexact Hat
  iintro ⟨Ho, Hat, -, Hpay⟩
  ihave Hp := (Entails.of_eq (rest_rcv P c l n h)) $$ Hpay
  rw [wp_ret]; imodintro
  isplitl [Hat]; · iexact Hat
  isplitl [Hp]; · iexact Hp
  iexists _; iexact Ho

/-- Waiting for the own copy of step `n`. -/
theorem waitSnd_wp (c : Dev nD) (l : Fin 4) (n : ℕ) (hn : n < 6) (h : Fin 2) (ls : List Item)
    {s : Shape} (src d : VM s) (hd : d.view.dmaCredit = NL l) :
    iprop(env P K ∗ cred (tallyAt (sndCell c l h) () (NL l)) ∗ atS c l n h ∗ owing c ls)
      ⊢ (WP c (waitP (sndSem l h) src d) fun _ => iprop(atS c l (n + 1) h ∗ sndPay P c l n h ∗ owing c ls) : sProp 𝕄) := by
  have hab : (levAts L lv : sProp 𝕄) ⊢ MayWait (c : Thread nD τ) (.dma (sndSem l h)) () (debt c ls) := by
    have e : lv ((c : Thread nD τ), SemLoc.dma (sndSem l h)) () = 0 := lv_snd c l h
    exact mayWait c (.dma (sndSem l h)) ls (by rw [e]; exact above_zero ls)
  unfold owing waitP Prog.lift atS
  iintro ⟨#HE, Hc, ⟨Hat, -⟩, ⟨%W, Ho⟩⟩
  rw [← hd]
  iapply (Rounds.wp_wait_rest_token 𝒱₀ ER (sched P) (c : Thread nD τ) none (κ := K (c, sndKey l h))
      (wpE_waitDma2_eq 𝒱₀ (c : Thread nD τ) none Set.univ) (Set.mem_univ _) () (O := debt c ls) (W := W) (R := n) (m := 0) (T := ∅)
      (by rw [Nat.zero_add, expect_snd P c l h n hn, hd])) $$ [Hc Ho Hat]
  · isplitr; · iapply (inv_snd P K c l h); iexact HE
    isplitl [Hc]; · iexact Hc
    isplitl [Ho]; · iexact Ho
    isplitr
    · iapply ((env_lev P K).trans hab); iexact HE
    iexact Hat
  iintro ⟨Ho, Hat, #Hr, Hpay⟩
  ihave Hp := (Entails.of_eq (rest_snd P c l h n hn)) $$ Hpay
  rw [wp_ret]; imodintro
  isplitl [Hat]
  · isplitl [Hat]; · iexact Hat
    iexact Hr
  isplitl [Hp]; · iexact Hp
  iexists _; iexact Ho

/-- A step of a first phase: the landing is added to the own rows, the own copy's rows come back. -/
theorem recv_add_wp (c : Dev nD) (l : Fin 4) (n : Fin 6) (hn : n.val < 3) (h : Fin 2) (ls : List Item) (ha : Above (lvl l n) ls) :
    iprop(env P K ∗ fly c l n h ∗ piece c (row c l (n.val + 1) h) (rows l) (base P l c) ∗ owing c ls)
      ⊢ (WP c (recvP c l n h) fun _ => iprop(piece c (row c l (n.val + 1) h) (rows l) (cont P l (n.val + 1) c) ∗ grants (prv c l) l n.val h
          ∗ piece c (row c l n.val h) (rows l) (cont P l n.val c) ∗ atS c l (n.val + 1) h
          ∗ got c l n h ∗ slot c l ⟨n.val, hn⟩ h ∗ owing c ls) : sProp 𝕄) := by
  unfold recvP fly
  rw [dif_pos hn]
  iintro ⟨#HE, ⟨Hw, Hc, Hat⟩, Hp, Ho⟩
  iapply (wp_block (waitRcv_wp P K c l n h ls ha _ _ (slot_credit l _ h))) $$ [Hw Ho]
  · isplitr; · iexact HE
    isplitl [Hw]; · iexact Hw
    iexact Ho
  iintro ⟨Hgot, Hpay, Ho⟩
  unfold rcvPay landed
  rw [dif_pos hn]
  icases Hpay with ⟨Hl, Hg⟩
  have hacc : ∀ (o : Fin 2 → ℕ) (ho : ∀ a, o a + (blkS (rows l)).size a ≤ S1024x1024.size a), o = at2 (row c l (n.val + 1) h) →
      iprop(piece c (row c l (n.val + 1) h) (rows l) (base P l c)
          ∗ owns (c : Thread nD τ) (slotM l ⟨n.val, hn⟩ h) fullShare ((rowM c l (n.val + 1) h).view.read (Elt F) (cont P l n.val (prv c l))))
        ⊢ (WP c (accP l ⟨n.val, hn⟩ h o ho) fun _ => iprop(piece c (row c l (n.val + 1) h) (rows l) (cont P l (n.val + 1) c)
            ∗ slot c l ⟨n.val, hn⟩ h) : sProp 𝕄) := by
    intro o ho e; subst e
    exact acc_wp c l ⟨n.val, hn⟩ h (row c l (n.val + 1) h) ho (base P l c) (cont P l n.val (prv c l))
  iapply (wp_block (hacc _ _ (accK_o c l ⟨n.val, hn⟩ h))) $$ [Hp Hl]
  · isplitl [Hp]; · iexact Hp
    iexact Hl
  iintro ⟨Hp, Hs⟩
  iapply (wp_last (waitSnd_wp P K c l n.val n.isLt h ls _ _ (out_credit l _ _))) $$ [Hc Hat Ho]
  · isplitr; · iexact HE
    isplitl [Hc]; · iexact Hc
    isplitl [Hat]; · iexact Hat
    iexact Ho
  iintro ⟨Hat, Hq, Ho⟩
  isplitl [Hp]; · iexact Hp
  isplitl [Hg]; · iexact Hg
  isplitl [Hq]
  · unfold sndPay cnt; rw [if_pos hn]; iexact Hq
  isplitl [Hat]; · iexact Hat
  isplitl [Hgot]; · iexact Hgot
  isplitl [Hs]; · iexact Hs
  iexact Ho

/-- A step of a second phase: reduced rows have landed, the own copy's rows come back. -/
theorem recv_get_wp (c : Dev nD) (l : Fin 4) (n : Fin 6) (hn : ¬ n.val < 3) (h : Fin 2) (ls : List Item) (ha : Above (lvl l n) ls) :
    iprop(env P K ∗ fly c l n h ∗ owing c ls)
      ⊢ (WP c (recvP c l n h) fun _ => iprop(piece c (row c l (n.val + 1) h) (rows l) (fin P) ∗ grants (prv c l) l n.val h
          ∗ piece c (row c l n.val h) (rows l) (fin P) ∗ atS c l (n.val + 1) h
          ∗ got c l n h ∗ owing c ls) : sProp 𝕄) := by
  unfold recvP fly
  rw [dif_neg hn]
  iintro ⟨#HE, ⟨Hw, Hc, Hat⟩, Ho⟩
  iapply (wp_block (waitRcv_wp P K c l n h ls ha _ _ (out_credit l _ _))) $$ [Hw Ho]
  · isplitr; · iexact HE
    isplitl [Hw]; · iexact Hw
    iexact Ho
  iintro ⟨Hgot, Hpay, Ho⟩
  unfold rcvPay landed
  rw [dif_neg hn]
  icases Hpay with ⟨Hl, Hg⟩
  iapply (wp_last (waitSnd_wp P K c l n.val n.isLt h ls _ _ (out_credit l _ _))) $$ [Hc Hat Ho]
  · isplitr; · iexact HE
    isplitl [Hc]; · iexact Hc
    isplitl [Hat]; · iexact Hat
    iexact Ho
  iintro ⟨Hat, Hq, Ho⟩
  isplitl [Hl]; · iexact Hl
  isplitl [Hg]; · iexact Hg
  isplitl [Hq]
  · unfold sndPay cnt; rw [if_neg hn]; iexact Hq
  isplitl [Hat]; · iexact Hat
  isplitl [Hgot]; · iexact Hgot
  iexact Ho

end Cert.KernelIdeal.Rings
-- ==== Proof.KI.Ring.lean ====
/- The two directions of one half of a ring: its states between the blocks of the program, and each block as a step from one
   state to the next. -/
module

public import proofs.«01_k».proof.Proof.KI.Remote

@[expose] public section

set_option maxRecDepth 20000

noncomputable section

namespace Cert.KernelIdeal.Rings

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Out F) (K : Dev nD × Key → ℕ)

/-! ## One lane, one step -/

/-- All that step `n` of the lane needs but the rows: its duties, its wait, and for a first phase the neighbour's slot. -/
def tw (c : Dev nD) (l : Fin 4) (n : Fin 6) (h : Fin 2) : sProp 𝕄 :=
  iprop(toks c l n h ∗ wt c l n h ∗ (if hn : n.val < 3 then slot (nbr c l) l ⟨n.val, hn⟩ h else iprop(emp)))
/-- What step `n` leaves: its landing waited for, and for a first phase the own slot. -/
def dn (c : Dev nD) (l : Fin 4) (n : Fin 6) (h : Fin 2) : sProp 𝕄 :=
  iprop(got c l n h ∗ (if hn : n.val < 3 then slot c l ⟨n.val, hn⟩ h else iprop(emp)))
/-- The steps to come. -/
def todo (c : Dev nD) (l : Fin 4) (h : Fin 2) : List (Fin 6) → sProp 𝕄
  | [] => iprop(emp)
  | n :: ns => iprop(tw c l n h ∗ todo c l h ns)
/-- The steps made. -/
def made (c : Dev nD) (l : Fin 4) (h : Fin 2) : List (Fin 6) → sProp 𝕄
  | [] => iprop(emp)
  | n :: ns => iprop(dn c l n h ∗ made c l h ns)
omit [FloatOps F] in
theorem made_intro (c : Dev nD) (l : Fin 4) (h : Fin 2) {n : Fin 6} {ns : List (Fin 6)} :
    iprop(dn c l n h ∗ made c l h ns) ⊢ (made c l h (n :: ns) : sProp 𝕄) := .rfl
/-- Rows of the neighbour the own copies may write over. -/
def give (c : Dev nD) (l : Fin 4) (m : ℕ) (h : Fin 2) : sProp 𝕄 := room (nbr c l) l m h
/-- Rows that hold the final value. -/
def ready (c : Dev nD) (l : Fin 4) (n : ℕ) (h : Fin 2) : sProp 𝕄 := piece c (row c l n h) (rows l) (fin P)
/-- Rows that hold the first `n` sums of their phase. -/
def part_ (c : Dev nD) (l : Fin 4) (n : ℕ) (h : Fin 2) : sProp 𝕄 := piece c (row c l n h) (rows l) (cont P l n c)
/-- Rows that hold the value the phase began with. -/
def raw (c : Dev nD) (l : Fin 4) (n : ℕ) (h : Fin 2) : sProp 𝕄 := piece c (row c l n h) (rows l) (base P l c)

theorem raw_zero (c : Dev nD) (l : Fin 4) (h : Fin 2) : (raw P c l 0 h : sProp 𝕄) = part_ P c l (0 : Fin 6).val h := rfl

theorem start_rs (c : Dev nD) (l : Fin 4) (n : Fin 6) (hn : n.val < 3) (h : Fin 2) (ls : List Item) :
    iprop(env P K ∗ part_ P c l n.val h ∗ tw c l n h ∗ grants c l n.val h ∗ atS c l n.val h ∗ owing c (.inr (l, n, h) :: ls))
      ⊢ (WP c (startP c l n h) fun _ => iprop(fly c l n h ∗ owing c ls) : sProp 𝕄) := by
  refine BIBase.Entails.trans ?_ (start_wp P K c l n h ls)
  unfold tw part_ dst cnt
  rw [dif_pos hn, dif_pos hn, if_pos hn]
  iintro ⟨HE, Hp, ⟨Ht, Hw, Hs⟩, Hg, Ha, Ho⟩
  isplitl [HE]; · iexact HE
  isplitl [Hp]; · iexact Hp
  isplitl [Ht]; · iexact Ht
  isplitl [Hw]; · iexact Hw
  isplitl [Hs]; · iexact Hs
  isplitl [Hg]; · iexact Hg
  isplitl [Ha]; · iexact Ha
  iexact Ho

theorem start_ag (c : Dev nD) (l : Fin 4) (n : Fin 6) (hn : ¬ n.val < 3) (h : Fin 2) (ls : List Item) :
    iprop(env P K ∗ ready P c l n.val h ∗ tw c l n h ∗ give c l (n.val - 3) h ∗ grants c l n.val h ∗ atS c l n.val h
        ∗ owing c (.inr (l, n, h) :: ls))
      ⊢ (WP c (startP c l n h) fun _ => iprop(fly c l n h ∗ owing c ls) : sProp 𝕄) := by
  refine BIBase.Entails.trans ?_ (start_wp P K c l n h ls)
  unfold tw ready dst cnt give
  rw [dif_neg hn, dif_neg hn, if_neg hn]
  iintro ⟨HE, Hp, ⟨Ht, Hw, -⟩, Hs, Hg, Ha, Ho⟩
  isplitl [HE]; · iexact HE
  isplitl [Hp]; · iexact Hp
  isplitl [Ht]; · iexact Ht
  isplitl [Hw]; · iexact Hw
  isplitl [Hs]; · iexact Hs
  isplitl [Hg]; · iexact Hg
  isplitl [Ha]; · iexact Ha
  iexact Ho

theorem recv_rs (c : Dev nD) (l : Fin 4) (n : Fin 6) (hn : n.val < 3) (h : Fin 2) (ls : List Item) (ha : Above (lvl l n) ls) :
    iprop(env P K ∗ fly c l n h ∗ raw P c l (n.val + 1) h ∗ owing c ls)
      ⊢ (WP c (recvP c l n h) fun _ => iprop(part_ P c l (n.val + 1) h ∗ grants (prv c l) l n.val h ∗ room c l n.val h
          ∗ atS c l (n.val + 1) h ∗ dn c l n h ∗ owing c ls) : sProp 𝕄) := by
  refine (recv_add_wp P K c l n hn h ls ha).trans (wp_mono _ _ _ fun _ => ?_)
  unfold dn room part_
  rw [dif_pos hn]
  iintro ⟨Hp, Hg, Hr, Ha, Hd, Hs, Ho⟩
  isplitl [Hp]; · iexact Hp
  isplitl [Hg]; · iexact Hg
  isplitl [Hr]; · iexists _; iexact Hr
  isplitl [Ha]; · iexact Ha
  isplitl [Hd Hs]
  · isplitl [Hd]; · iexact Hd
    iexact Hs
  iexact Ho

theorem recv_ag (c : Dev nD) (l : Fin 4) (n : Fin 6) (hn : ¬ n.val < 3) (h : Fin 2) (ls : List Item) (ha : Above (lvl l n) ls) :
    iprop(env P K ∗ fly c l n h ∗ owing c ls)
      ⊢ (WP c (recvP c l n h) fun _ => iprop(ready P c l (n.val + 1) h ∗ grants (prv c l) l n.val h ∗ ready P c l n.val h
          ∗ atS c l (n.val + 1) h ∗ dn c l n h ∗ owing c ls) : sProp 𝕄) := by
  refine (recv_get_wp P K c l n hn h ls ha).trans (wp_mono _ _ _ fun _ => ?_)
  unfold dn ready
  rw [dif_neg hn]
  iintro ⟨Hp, Hg, Hr, Ha, Hd, Ho⟩
  isplitl [Hp]; · iexact Hp
  isplitl [Hg]; · iexact Hg
  isplitl [Hr]; · iexact Hr
  isplitl [Ha]; · iexact Ha
  isplitl [Hd]
  · isplitl [Hd]; · iexact Hd
    iempintro
  iexact Ho

/-! ## What the copies bring along -/

omit [FloatOps F] in
theorem grants_none (s : Dev nD) (l : Fin 4) (n : ℕ) (h₂ : n ≠ 2) (h₃ : n ≠ 3) (h : Fin 2) : (grants s l n h : sProp 𝕄) = iprop(emp) := by
  unfold grants; rw [if_neg h₂, if_neg h₃]
omit [FloatOps F] in
theorem grants_R2 (s : Dev nD) (r : Fin 2) (h : Fin 2) : (grants s (laneOf r 0) (2 : Fin 6).val h : sProp 𝕄) = room s (laneOf r 1) 0 h := by
  fin_cases r <;> rfl
omit [FloatOps F] in
theorem grants_L2 (s : Dev nD) (r : Fin 2) (h : Fin 2) :
    (grants s (laneOf r 1) (2 : Fin 6).val h : sProp 𝕄) = iprop(room s (laneOf r 0) 0 h ∗ room s (laneOf r 0) 1 h) := by
  fin_cases r <;> rfl
omit [FloatOps F] in
theorem grants_R3 (s : Dev nD) (r : Fin 2) (h : Fin 2) :
    (grants s (laneOf r 0) (3 : Fin 6).val h : sProp 𝕄) = iprop(room s (laneOf r 1) 1 h ∗ room s (laneOf r 1) 2 h) := by
  fin_cases r <;> rfl
omit [FloatOps F] in
theorem grants_L3 (s : Dev nD) (r : Fin 2) (h : Fin 2) : (grants s (laneOf r 1) (3 : Fin 6).val h : sProp 𝕄) = room s (laneOf r 0) 2 h := by
  fin_cases r <;> rfl
theorem prv_R (c : Dev nD) (r : Fin 2) : prv c (laneOf r 0) = nbr c (laneOf r 1) := by fin_cases r <;> rfl
theorem prv_L (c : Dev nD) (r : Fin 2) : prv c (laneOf r 1) = nbr c (laneOf r 0) := by fin_cases r <;> rfl

/-! ## One half of a ring, both directions, between two blocks of the program -/

section states
variable (c : Dev nD) (r h : Fin 2)

/-- The steps to come on both directions. -/
def todo2 (ns : List (Fin 6)) : sProp 𝕄 := iprop(todo c (laneOf r 0) h ns ∗ todo c (laneOf r 1) h ns)
/-- The steps made on both directions. -/
def made2 (ns : List (Fin 6)) : sProp 𝕄 := iprop(made c (laneOf r 0) h ns ∗ made c (laneOf r 1) h ns)
/-- The copies of step `n` under way. -/
def fly2 (n : Fin 6) : sProp 𝕄 := iprop(fly c (laneOf r 0) n h ∗ fly c (laneOf r 1) n h)
def atS2 (n : ℕ) : sProp 𝕄 := iprop(atS c (laneOf r 0) n h ∗ atS c (laneOf r 1) n h)
def raw2 (n : ℕ) : sProp 𝕄 := iprop(raw P c (laneOf r 0) n h ∗ raw P c (laneOf r 1) n h)
def ready2 (n : ℕ) : sProp 𝕄 := iprop(ready P c (laneOf r 0) n h ∗ ready P c (laneOf r 1) n h)

/-- Before the ring's first copies. -/
def sA : sProp 𝕄 := iprop(atS2 c r h 0 ∗ todo2 c r h [0, 1, 2, 3, 4, 5])
def s0 : sProp 𝕄 := iprop(fly2 c r h 0 ∗ todo2 c r h [1, 2, 3, 4, 5])
def s1 : sProp 𝕄 :=
  iprop(fly2 c r h 1 ∗ todo2 c r h [2, 3, 4, 5] ∗ made2 c r h [0] ∗ room c (laneOf r 0) 0 h ∗ room c (laneOf r 1) 0 h)
def s2 : sProp 𝕄 := iprop(fly2 c r h 2 ∗ todo2 c r h [3, 4, 5] ∗ made2 c r h [1, 0] ∗ room c (laneOf r 1) 1 h)
/-- Between the two phases, the reduced rows aside. -/
def s3 : sProp 𝕄 :=
  iprop(atS2 c r h 3 ∗ todo2 c r h [3, 4, 5] ∗ made2 c r h [2, 1, 0]
    ∗ room c (laneOf r 0) 2 h ∗ room c (laneOf r 1) 1 h ∗ room c (laneOf r 1) 2 h
    ∗ give c (laneOf r 0) 0 h ∗ give c (laneOf r 0) 1 h ∗ give c (laneOf r 1) 0 h)
def s4 : sProp 𝕄 := iprop(fly2 c r h 3 ∗ todo2 c r h [4, 5] ∗ made2 c r h [2, 1, 0] ∗ give c (laneOf r 0) 1 h)
def s5 : sProp 𝕄 :=
  iprop(fly2 c r h 4 ∗ todo2 c r h [5] ∗ made2 c r h [3, 2, 1, 0] ∗ give c (laneOf r 0) 2 h ∗ give c (laneOf r 1) 2 h
    ∗ ready2 P c r h 3)
def s6 : sProp 𝕄 :=
  iprop(fly2 c r h 5 ∗ made2 c r h [4, 3, 2, 1, 0] ∗ ready2 P c r h 4 ∗ ready2 P c r h 3)
/-- After the ring's last copies. -/
def s7 : sProp 𝕄 :=
  iprop(atS2 c r h 6 ∗ made2 c r h [5, 4, 3, 2, 1, 0] ∗ ready2 P c r h 6 ∗ ready2 P c r h 5 ∗ ready2 P c r h 4 ∗ ready2 P c r h 3)

end states

variable (c : Dev nD) (r h : Fin 2) (ls : List Item)

theorem above_one {k : ℕ} (l : Fin 4) (n : Fin 6) (h : Fin 2) (ls : List Item) (hk : k < lvl l n) (hl : Above k ls) :
    Above k (.inr (l, n, h) :: ls) := by
  intro x hx
  rcases List.mem_cons.mp hx with rfl | hx
  · exact hk
  · exact hl x hx

theorem open_rs : iprop(env P K ∗ sA c r h ∗ raw2 P c r h 0 ∗ owing c (pr r 0 h ++ ls))
    ⊢ (WP c (openH c r 0 h) fun _ => iprop(s0 c r h ∗ owing c ls) : sProp 𝕄) := by
  unfold sA atS2 todo2 todo raw2 openH
  iintro ⟨#HE, ⟨⟨HaR, HaL⟩, ⟨HtR, HtR'⟩, ⟨HtL, HtL'⟩⟩, ⟨HR, HL⟩, Ho⟩
  iapply (wp_block (start_rs P K c (laneOf r 0) 0 (by decide) h (.inr (laneOf r 1, 0, h) :: ls))) $$ [HaR HtR HR Ho]
  · isplitr; · iexact HE
    isplitl [HR]; · iapply (Entails.of_eq (raw_zero P c _ h)); iexact HR
    isplitl [HtR]; · iexact HtR
    isplitr; · rw [grants_none _ _ _ (by decide) (by decide)]; iempintro
    isplitl [HaR]; · iexact HaR
    iexact Ho
  iintro ⟨HfR, Ho⟩
  iapply (wp_last (start_rs P K c (laneOf r 1) 0 (by decide) h ls)) $$ [HaL HtL HL Ho]
  · isplitr; · iexact HE
    isplitl [HL]; · iapply (Entails.of_eq (raw_zero P c _ h)); iexact HL
    isplitl [HtL]; · iexact HtL
    isplitr; · rw [grants_none _ _ _ (by decide) (by decide)]; iempintro
    isplitl [HaL]; · iexact HaL
    iexact Ho
  iintro ⟨HfL, Ho⟩
  unfold s0 fly2 todo2
  isplitr [Ho]
  · isplitl [HfR HfL]
    · isplitl [HfR]; · iexact HfR
      iexact HfL
    isplitl [HtR']; · iexact HtR'
    iexact HtL'
  iexact Ho

theorem go_rs0 (ha : Above (lvl (laneOf r 0) 0) ls) :
    iprop(env P K ∗ s0 c r h ∗ raw2 P c r h 1 ∗ owing c (pr r 1 h ++ ls))
    ⊢ (WP c (goP c r 0 1 h) fun _ => iprop(s1 c r h ∗ owing c ls) : sProp 𝕄) := by
  have hk : lvl (laneOf r 0) 0 < lvl (laneOf r 0) 1 := by clear ha; revert r; decide
  have e := lvl_dir r
  unfold s0 todo2 todo raw2 goP fly2
  iintro ⟨#HE, ⟨⟨HfR, HfL⟩, ⟨HtR, HtR'⟩, ⟨HtL, HtL'⟩⟩, ⟨HR, HL⟩, Ho⟩
  iapply (wp_block (recv_rs P K c (laneOf r 0) 0 (by decide) h (.inr (laneOf r 0, 1, h) :: .inr (laneOf r 1, 1, h) :: ls)
    (above_pr (ls := ls) r 1 h hk ha))) $$ [HfR HR Ho]
  · isplitr; · iexact HE
    isplitl [HfR]; · iexact HfR
    isplitl [HR]; · iexact HR
    iexact Ho
  iintro ⟨HR, -, HrR, HaR, HdR, Ho⟩
  iapply (wp_block (start_rs P K c (laneOf r 0) 1 (by decide) h (.inr (laneOf r 1, 1, h) :: ls))) $$ [HaR HtR HR Ho]
  · isplitr; · iexact HE
    isplitl [HR]; · iexact HR
    isplitl [HtR]; · iexact HtR
    isplitr; · rw [grants_none _ _ _ (by decide) (by decide)]; iempintro
    isplitl [HaR]; · iexact HaR
    iexact Ho
  iintro ⟨HfR, Ho⟩
  iapply (wp_block (recv_rs P K c (laneOf r 1) 0 (by decide) h (.inr (laneOf r 1, 1, h) :: ls)
    (above_one _ _ _ _ (by rw [e, e]; exact hk) (by rw [e]; exact ha)))) $$ [HfL HL Ho]
  · isplitr; · iexact HE
    isplitl [HfL]; · iexact HfL
    isplitl [HL]; · iexact HL
    iexact Ho
  iintro ⟨HL, -, HrL, HaL, HdL, Ho⟩
  iapply (wp_last (start_rs P K c (laneOf r 1) 1 (by decide) h ls)) $$ [HaL HtL HL Ho]
  · isplitr; · iexact HE
    isplitl [HL]; · iexact HL
    isplitl [HtL]; · iexact HtL
    isplitr; · rw [grants_none _ _ _ (by decide) (by decide)]; iempintro
    isplitl [HaL]; · iexact HaL
    iexact Ho
  iintro ⟨HfL, Ho⟩
  unfold s1 fly2 todo2 made2 made made
  isplitr [Ho]
  · isplitl [HfR HfL]
    · isplitl [HfR]; · iexact HfR
      iexact HfL
    isplitl [HtR' HtL']
    · isplitl [HtR']; · iexact HtR'
      iexact HtL'
    isplitl [HdR HdL]
    · isplitl [HdR]
      · isplitl [HdR]; · iexact HdR
        iempintro
      isplitl [HdL]; · iexact HdL
      iempintro
    isplitl [HrR]; · iexact HrR
    iexact HrL
  iexact Ho

theorem go_rs1 (ha : Above (lvl (laneOf r 0) 1) ls) :
    iprop(env P K ∗ s1 c r h ∗ raw2 P c r h 2 ∗ owing c (pr r 2 h ++ ls))
    ⊢ (WP c (goP c r 1 2 h) fun _ => iprop(s2 c r h ∗ owing c ls) : sProp 𝕄) := by
  have hk : lvl (laneOf r 0) 1 < lvl (laneOf r 0) 2 := by clear ha; revert r; decide
  have e := lvl_dir r
  unfold s1 todo2 todo raw2 goP fly2 made2
  iintro ⟨#HE, ⟨⟨HfR, HfL⟩, ⟨⟨HtR, HtR'⟩, ⟨HtL, HtL'⟩⟩, ⟨HmR, HmL⟩, HrR0, HrL0⟩, ⟨HR, HL⟩, Ho⟩
  iapply (wp_block (recv_rs P K c (laneOf r 0) 1 (by decide) h (.inr (laneOf r 0, 2, h) :: .inr (laneOf r 1, 2, h) :: ls)
    (above_pr (ls := ls) r 2 h hk ha))) $$ [HfR HR Ho]
  · isplitr; · iexact HE
    isplitl [HfR]; · iexact HfR
    isplitl [HR]; · iexact HR
    iexact Ho
  iintro ⟨HR, -, HrR1, HaR, HdR, Ho⟩
  iapply (wp_block (start_rs P K c (laneOf r 0) 2 (by decide) h (.inr (laneOf r 1, 2, h) :: ls))) $$ [HaR HtR HR HrL0 Ho]
  · isplitr; · iexact HE
    isplitl [HR]; · iexact HR
    isplitl [HtR]; · iexact HtR
    isplitl [HrL0]; · iapply (Entails.of_eq (grants_R2 c r h).symm); iexact HrL0
    isplitl [HaR]; · iexact HaR
    iexact Ho
  iintro ⟨HfR, Ho⟩
  iapply (wp_block (recv_rs P K c (laneOf r 1) 1 (by decide) h (.inr (laneOf r 1, 2, h) :: ls)
    (above_one _ _ _ _ (by rw [e, e]; exact hk) (by rw [e]; exact ha)))) $$ [HfL HL Ho]
  · isplitr; · iexact HE
    isplitl [HfL]; · iexact HfL
    isplitl [HL]; · iexact HL
    iexact Ho
  iintro ⟨HL, -, HrL1, HaL, HdL, Ho⟩
  iapply (wp_last (start_rs P K c (laneOf r 1) 2 (by decide) h ls)) $$ [HaL HtL HL HrR0 HrR1 Ho]
  · isplitr; · iexact HE
    isplitl [HL]; · iexact HL
    isplitl [HtL]; · iexact HtL
    isplitl [HrR0 HrR1]
    · iapply (Entails.of_eq (grants_L2 c r h).symm)
      isplitl [HrR0]; · iexact HrR0
      iexact HrR1
    isplitl [HaL]; · iexact HaL
    iexact Ho
  iintro ⟨HfL, Ho⟩
  unfold s2 fly2 todo2 made2
  isplitr [Ho]
  · isplitl [HfR HfL]
    · isplitl [HfR]; · iexact HfR
      iexact HfL
    isplitl [HtR' HtL']
    · isplitl [HtR']; · iexact HtR'
      iexact HtL'
    isplitl [HdR HdL HmR HmL]
    · isplitl [HdR HmR]
      · iapply (made_intro c (laneOf r 0) h)
        isplitl [HdR]; · iexact HdR
        iexact HmR
      iapply (made_intro c (laneOf r 1) h)
      isplitl [HdL]; · iexact HdL
      iexact HmL
    iexact HrL1
  iexact Ho

theorem end_rs (ha : Above (lvl (laneOf r 0) 2) ls) :
    iprop(env P K ∗ s2 c r h ∗ raw2 P c r h 3 ∗ owing c ls)
    ⊢ (WP c (endP c r 2 h) fun _ => iprop(s3 c r h ∗ (part_ P c (laneOf r 0) 3 h ∗ part_ P c (laneOf r 1) 3 h) ∗ owing c ls) : sProp 𝕄) := by
  have e := lvl_dir r
  unfold s2 raw2 endP fly2 made2
  iintro ⟨#HE, ⟨⟨HfR, HfL⟩, Ht, ⟨HmR, HmL⟩, HrL1⟩, ⟨HR, HL⟩, Ho⟩
  iapply (wp_block (recv_rs P K c (laneOf r 0) 2 (by decide) h ls ha)) $$ [HfR HR Ho]
  · isplitr; · iexact HE
    isplitl [HfR]; · iexact HfR
    isplitl [HR]; · iexact HR
    iexact Ho
  iintro ⟨HR, HgR, HrR2, HaR, HdR, Ho⟩
  iapply (wp_last (recv_rs P K c (laneOf r 1) 2 (by decide) h ls (by rw [e]; exact ha))) $$ [HfL HL Ho]
  · isplitr; · iexact HE
    isplitl [HfL]; · iexact HfL
    isplitl [HL]; · iexact HL
    iexact Ho
  iintro ⟨HL, HgL, HrL2, HaL, HdL, Ho⟩
  rw [prv_R, prv_L]
  ihave HgR := (Entails.of_eq (grants_R2 (nbr c (laneOf r 1)) r h)) $$ HgR
  ihave HgL := (Entails.of_eq (grants_L2 (nbr c (laneOf r 0)) r h)) $$ HgL
  icases HgL with ⟨HgL0, HgL1⟩
  unfold s3 atS2 made2
  isplitr [HR HL Ho]
  · isplitl [HaR HaL]
    · isplitl [HaR]; · iexact HaR
      iexact HaL
    isplitl [Ht]; · iexact Ht
    isplitl [HdR HdL HmR HmL]
    · isplitl [HdR HmR]
      · iapply (made_intro c (laneOf r 0) h)
        isplitl [HdR]; · iexact HdR
        iexact HmR
      iapply (made_intro c (laneOf r 1) h)
      isplitl [HdL]; · iexact HdL
      iexact HmL
    isplitl [HrR2]; · iexact HrR2
    isplitl [HrL1]; · iexact HrL1
    isplitl [HrL2]; · iexact HrL2
    unfold give
    isplitl [HgL0]; · iexact HgL0
    isplitl [HgL1]; · iexact HgL1
    iexact HgR
  isplitl [HR HL]
  · isplitl [HR]; · iexact HR
    iexact HL
  iexact Ho

theorem open_ag : iprop(env P K ∗ s3 c r h ∗ ready2 P c r h 3 ∗ owing c (pr r 3 h ++ ls))
    ⊢ (WP c (openH c r 3 h) fun _ => iprop(s4 c r h ∗ owing c ls) : sProp 𝕄) := by
  unfold s3 atS2 todo2 todo ready2 openH
  iintro ⟨#HE, ⟨⟨HaR, HaL⟩, ⟨⟨HtR, HtR'⟩, ⟨HtL, HtL'⟩⟩, Hm, HrR2, HrL1, HrL2, HgR0, HgR1, HgL0⟩, ⟨HR, HL⟩, Ho⟩
  iapply (wp_block (start_ag P K c (laneOf r 0) 3 (by decide) h (.inr (laneOf r 1, 3, h) :: ls))) $$ [HaR HtR HR HgR0 HrL1 HrL2 Ho]
  · isplitr; · iexact HE
    isplitl [HR]; · iexact HR
    isplitl [HtR]; · iexact HtR
    isplitl [HgR0]; · iexact HgR0
    isplitl [HrL1 HrL2]
    · iapply (Entails.of_eq (grants_R3 c r h).symm)
      isplitl [HrL1]; · iexact HrL1
      iexact HrL2
    isplitl [HaR]; · iexact HaR
    iexact Ho
  iintro ⟨HfR, Ho⟩
  iapply (wp_last (start_ag P K c (laneOf r 1) 3 (by decide) h ls)) $$ [HaL HtL HL HgL0 HrR2 Ho]
  · isplitr; · iexact HE
    isplitl [HL]; · iexact HL
    isplitl [HtL]; · iexact HtL
    isplitl [HgL0]; · iexact HgL0
    isplitl [HrR2]; · iapply (Entails.of_eq (grants_L3 c r h).symm); iexact HrR2
    isplitl [HaL]; · iexact HaL
    iexact Ho
  iintro ⟨HfL, Ho⟩
  unfold s4 fly2 todo2
  isplitr [Ho]
  · isplitl [HfR HfL]
    · isplitl [HfR]; · iexact HfR
      iexact HfL
    isplitl [HtR' HtL']
    · isplitl [HtR']; · iexact HtR'
      iexact HtL'
    isplitl [Hm]; · iexact Hm
    iexact HgR1
  iexact Ho

theorem go_ag3 (ha : Above (lvl (laneOf r 0) 3) ls) :
    iprop(env P K ∗ s4 c r h ∗ owing c (pr r 4 h ++ ls))
    ⊢ (WP c (goP c r 3 4 h) fun _ => iprop(s5 P c r h ∗ owing c ls) : sProp 𝕄) := by
  have hk : lvl (laneOf r 0) 3 < lvl (laneOf r 0) 4 := by clear ha; revert r; decide
  have e := lvl_dir r
  unfold s4 todo2 todo goP fly2 made2
  iintro ⟨#HE, ⟨⟨HfR, HfL⟩, ⟨⟨HtR, HtR'⟩, ⟨HtL, HtL'⟩⟩, ⟨HmR, HmL⟩, HgR1⟩, Ho⟩
  iapply (wp_block (recv_ag P K c (laneOf r 0) 3 (by decide) h (.inr (laneOf r 0, 4, h) :: .inr (laneOf r 1, 4, h) :: ls)
    (above_pr (ls := ls) r 4 h hk ha))) $$ [HfR Ho]
  · isplitr; · iexact HE
    isplitl [HfR]; · iexact HfR
    iexact Ho
  iintro ⟨HR4, HgR, HR3, HaR, HdR, Ho⟩
  rw [prv_R]
  ihave HgR := (Entails.of_eq (grants_R3 (nbr c (laneOf r 1)) r h)) $$ HgR
  icases HgR with ⟨HgL1, HgL2⟩
  iapply (wp_block (start_ag P K c (laneOf r 0) 4 (by decide) h (.inr (laneOf r 1, 4, h) :: ls))) $$ [HaR HtR HR4 HgR1 Ho]
  · isplitr; · iexact HE
    isplitl [HR4]; · iexact HR4
    isplitl [HtR]; · iexact HtR
    isplitl [HgR1]; · iexact HgR1
    isplitr; · rw [grants_none _ _ _ (by decide) (by decide)]; iempintro
    isplitl [HaR]; · iexact HaR
    iexact Ho
  iintro ⟨HfR, Ho⟩
  iapply (wp_block (recv_ag P K c (laneOf r 1) 3 (by decide) h (.inr (laneOf r 1, 4, h) :: ls)
    (above_one _ _ _ _ (by rw [e, e]; exact hk) (by rw [e]; exact ha)))) $$ [HfL Ho]
  · isplitr; · iexact HE
    isplitl [HfL]; · iexact HfL
    iexact Ho
  iintro ⟨HL4, HgL, HL3, HaL, HdL, Ho⟩
  rw [prv_L]
  ihave HgR2 := (Entails.of_eq (grants_L3 (nbr c (laneOf r 0)) r h)) $$ HgL
  iapply (wp_last (start_ag P K c (laneOf r 1) 4 (by decide) h ls)) $$ [HaL HtL HL4 HgL1 Ho]
  · isplitr; · iexact HE
    isplitl [HL4]; · iexact HL4
    isplitl [HtL]; · iexact HtL
    isplitl [HgL1]; · unfold give; iexact HgL1
    isplitr; · rw [grants_none _ _ _ (by decide) (by decide)]; iempintro
    isplitl [HaL]; · iexact HaL
    iexact Ho
  iintro ⟨HfL, Ho⟩
  unfold s5 fly2 todo2 made2 ready2
  isplitr [Ho]
  · isplitl [HfR HfL]
    · isplitl [HfR]; · iexact HfR
      iexact HfL
    isplitl [HtR' HtL']
    · isplitl [HtR']; · iexact HtR'
      iexact HtL'
    isplitl [HdR HdL HmR HmL]
    · isplitl [HdR HmR]
      · iapply (made_intro c (laneOf r 0) h)
        isplitl [HdR]; · iexact HdR
        iexact HmR
      iapply (made_intro c (laneOf r 1) h)
      isplitl [HdL]; · iexact HdL
      iexact HmL
    unfold give
    isplitl [HgR2]; · iexact HgR2
    isplitl [HgL2]; · iexact HgL2
    isplitl [HR3]; · iexact HR3
    iexact HL3
  iexact Ho

theorem go_ag4 (ha : Above (lvl (laneOf r 0) 4) ls) :
    iprop(env P K ∗ s5 P c r h ∗ owing c (pr r 5 h ++ ls))
    ⊢ (WP c (goP c r 4 5 h) fun _ => iprop(s6 P c r h ∗ owing c ls) : sProp 𝕄) := by
  have hk : lvl (laneOf r 0) 4 < lvl (laneOf r 0) 5 := by clear ha; revert r; decide
  have e := lvl_dir r
  unfold s5 todo2 todo goP fly2 made2
  iintro ⟨#HE, ⟨⟨HfR, HfL⟩, ⟨⟨HtR, -⟩, ⟨HtL, -⟩⟩, ⟨HmR, HmL⟩, HgR2, HgL2, H3⟩, Ho⟩
  iapply (wp_block (recv_ag P K c (laneOf r 0) 4 (by decide) h (.inr (laneOf r 0, 5, h) :: .inr (laneOf r 1, 5, h) :: ls)
    (above_pr (ls := ls) r 5 h hk ha))) $$ [HfR Ho]
  · isplitr; · iexact HE
    isplitl [HfR]; · iexact HfR
    iexact Ho
  iintro ⟨HR5, -, HR4, HaR, HdR, Ho⟩
  iapply (wp_block (start_ag P K c (laneOf r 0) 5 (by decide) h (.inr (laneOf r 1, 5, h) :: ls))) $$ [HaR HtR HR5 HgR2 Ho]
  · isplitr; · iexact HE
    isplitl [HR5]; · iexact HR5
    isplitl [HtR]; · iexact HtR
    isplitl [HgR2]; · iexact HgR2
    isplitr; · rw [grants_none _ _ _ (by decide) (by decide)]; iempintro
    isplitl [HaR]; · iexact HaR
    iexact Ho
  iintro ⟨HfR, Ho⟩
  iapply (wp_block (recv_ag P K c (laneOf r 1) 4 (by decide) h (.inr (laneOf r 1, 5, h) :: ls)
    (above_one _ _ _ _ (by rw [e, e]; exact hk) (by rw [e]; exact ha)))) $$ [HfL Ho]
  · isplitr; · iexact HE
    isplitl [HfL]; · iexact HfL
    iexact Ho
  iintro ⟨HL5, -, HL4, HaL, HdL, Ho⟩
  iapply (wp_last (start_ag P K c (laneOf r 1) 5 (by decide) h ls)) $$ [HaL HtL HL5 HgL2 Ho]
  · isplitr; · iexact HE
    isplitl [HL5]; · iexact HL5
    isplitl [HtL]; · iexact HtL
    isplitl [HgL2]; · iexact HgL2
    isplitr; · rw [grants_none _ _ _ (by decide) (by decide)]; iempintro
    isplitl [HaL]; · iexact HaL
    iexact Ho
  iintro ⟨HfL, Ho⟩
  unfold s6 fly2 made2 ready2
  isplitr [Ho]
  · isplitl [HfR HfL]
    · isplitl [HfR]; · iexact HfR
      iexact HfL
    isplitl [HdR HdL HmR HmL]
    · isplitl [HdR HmR]
      · iapply (made_intro c (laneOf r 0) h)
        isplitl [HdR]; · iexact HdR
        iexact HmR
      iapply (made_intro c (laneOf r 1) h)
      isplitl [HdL]; · iexact HdL
      iexact HmL
    isplitl [HR4 HL4]
    · isplitl [HR4]; · iexact HR4
      iexact HL4
    iexact H3
  iexact Ho

theorem end_ag (ha : Above (lvl (laneOf r 0) 5) ls) :
    iprop(env P K ∗ s6 P c r h ∗ owing c ls)
    ⊢ (WP c (endP c r 5 h) fun _ => iprop(s7 P c r h ∗ owing c ls) : sProp 𝕄) := by
  have e := lvl_dir r
  unfold s6 endP fly2 made2
  iintro ⟨#HE, ⟨⟨HfR, HfL⟩, ⟨HmR, HmL⟩, H4, H3⟩, Ho⟩
  iapply (wp_block (recv_ag P K c (laneOf r 0) 5 (by decide) h ls ha)) $$ [HfR Ho]
  · isplitr; · iexact HE
    isplitl [HfR]; · iexact HfR
    iexact Ho
  iintro ⟨HR6, -, HR5, HaR, HdR, Ho⟩
  iapply (wp_last (recv_ag P K c (laneOf r 1) 5 (by decide) h ls (by rw [e]; exact ha))) $$ [HfL Ho]
  · isplitr; · iexact HE
    isplitl [HfL]; · iexact HfL
    iexact Ho
  iintro ⟨HL6, -, HL5, HaL, HdL, Ho⟩
  unfold s7 atS2 made2 ready2
  isplitr [Ho]
  · isplitl [HaR HaL]
    · isplitl [HaR]; · iexact HaR
      iexact HaL
    isplitl [HdR HdL HmR HmL]
    · isplitl [HdR HmR]
      · iapply (made_intro c (laneOf r 0) h)
        isplitl [HdR]; · iexact HdR
        iexact HmR
      iapply (made_intro c (laneOf r 1) h)
      isplitl [HdL]; · iexact HdL
      iexact HmL
    isplitl [HR6 HL6]
    · isplitl [HR6]; · iexact HR6
      iexact HL6
    isplitl [HR5 HL5]
    · isplitl [HR5]; · iexact HR5
      iexact HL5
    isplitl [H4]; · iexact H4
    iexact H3
  iexact Ho

end Cert.KernelIdeal.Rings
-- ==== Proof.KI.Rows.lean ====
/- How the rows of the result are shared out among the steps of a ring, and how they pass from one ring to the other. -/
module

public import proofs.«01_k».proof.Proof.KI.Ring

@[expose] public section

set_option maxRecDepth 20000

noncomputable section

namespace Cert.KernelIdeal.Rings

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The four quarters of a lane's rows, in the order of the steps -/

/-- The first row of the rows a lane works on. -/
def lo (c : Dev nD) : Fin 4 → ℕ
  | 0 => 0
  | 1 => 512
  | 2 => 128 * ((c.val % 4 + 1) % 4)
  | 3 => 512 + 128 * ((c.val % 4 + 3) % 4)

/-- Which quarter step `k` copies. -/
def quarter (c : Dev nD) (l : Fin 4) (k : Fin 4) : Fin 4 :=
  match l with
  | 0 => ⟨(c.val % 4 + 12 - k.val) % 4, Nat.mod_lt _ (by decide)⟩
  | 1 => ⟨(c.val % 4 + k.val) % 4, Nat.mod_lt _ (by decide)⟩
  | 2 => ⟨(c.val / 4 + 12 - k.val) % 4, Nat.mod_lt _ (by decide)⟩
  | 3 => ⟨(c.val / 4 + k.val) % 4, Nat.mod_lt _ (by decide)⟩

theorem quarter_inj (c : Dev nD) (l : Fin 4) : Function.Injective (quarter c l) := by
  intro k k' h; revert c l k k'; decide +kernel

def quarterE (c : Dev nD) (l : Fin 4) : Fin 4 ≃ Fin 4 :=
  Equiv.ofBijective (quarter c l) (Finite.injective_iff_bijective.mp (quarter_inj c l))

theorem row_quarter (c : Dev nD) (l : Fin 4) (k : Fin 4) (h : Fin 2) :
    row c l k.val h = lo c l + 2 * rows l * (quarterE c l k).val + rows l * h.val := by
  show _ = lo c l + 2 * rows l * (quarter c l k).val + rows l * h.val
  revert c l k h; decide +kernel

theorem row_half (c : Dev nD) (l : Fin 4) (n : ℕ) : row c l n 1 = row c l n 0 + rows l := by
  match l with
  | 0 => rfl
  | 1 => rfl
  | 2 => rfl
  | 3 => rfl

theorem row_lo (c : Dev nD) (r : Fin 2) : row c (laneOf 0 r) 3 0 = lo c (laneOf 1 r) := by
  revert c r; decide +kernel

section
variable (c : Dev nD) (f : Out F)

theorem piece_four (a q : ℕ) :
    (piece c a (8 * q) f : sProp 𝕄) ⊣⊢ bigSep Finset.univ fun k : Fin 4 => piece c (a + 2 * q * k.val) (2 * q) f := by
  rw [bigSep_fin4, show 8 * q = 2 * q + (2 * q + (2 * q + 2 * q)) by omega]
  have e : ∀ k : ℕ, a + 2 * q * k + 2 * q = a + 2 * q * (k + 1) := fun k => by rw [Nat.mul_succ, Nat.add_assoc]
  refine (piece_add c a _ _ f).trans ?_
  rw [show a + 2 * q * ((0 : Fin 4) : ℕ) = a by simp]
  refine sep_congr .rfl ?_
  refine (piece_add c _ _ _ f).trans ?_
  rw [show a + 2 * q = a + 2 * q * ((1 : Fin 4) : ℕ) by simp]
  refine sep_congr .rfl ?_
  rw [show a + 2 * q * ((1 : Fin 4) : ℕ) + 2 * q = a + 2 * q * ((2 : Fin 4) : ℕ) from e 1]
  refine (piece_add c _ _ _ f).trans ?_
  rw [show a + 2 * q * ((2 : Fin 4) : ℕ) + 2 * q = a + 2 * q * ((3 : Fin 4) : ℕ) from e 2]

/-- A lane's rows as the four chunks of its steps. -/
theorem lane_chunks (l : Fin 4) :
    (piece c (lo c l) (8 * rows l) f : sProp 𝕄) ⊣⊢
      iprop(piece c (row c l 0 0) (2 * rows l) f ∗ piece c (row c l 1 0) (2 * rows l) f ∗ piece c (row c l 2 0) (2 * rows l) f
        ∗ piece c (row c l 3 0) (2 * rows l) f) := by
  refine (piece_four c f (lo c l) (rows l)).trans ?_
  rw [bigSep_univ_equiv (quarterE c l)]
  rw [bigSep_fin4]
  have e : ∀ k : Fin 4, lo c l + 2 * rows l * (quarterE c l k).val = row c l k.val 0 := fun k => by
    rw [row_quarter c l k 0]; rfl
  rw [e 0, e 1, e 2, e 3]
  exact .rfl

omit [FloatOps F] in
/-- A chunk as its two halves. -/
theorem chunk_halves (l : Fin 4) (n : ℕ) :
    (piece c (row c l n 0) (2 * rows l) f : sProp 𝕄) ⊣⊢ iprop(piece c (row c l n 0) (rows l) f ∗ piece c (row c l n 1) (rows l) f) := by
  rw [row_half, Nat.two_mul]; exact piece_add c _ _ _ f

omit [FloatOps F] in
theorem out_halves : (piece c 0 1024 f : sProp 𝕄) ⊣⊢ iprop(piece c (lo c 0) (8 * rows 0) f ∗ piece c (lo c 1) (8 * rows 1) f) :=
  piece_add c 0 512 512 f
end

variable (P : Dev nD → Out F) (c : Dev nD)

/-! ## The change of ring -/

/-- All four chunks of a ring, at the values its first phase begins with. -/
def raws (r h : Fin 2) : sProp 𝕄 := iprop(raw2 P c r h 0 ∗ raw2 P c r h 1 ∗ raw2 P c r h 2 ∗ raw2 P c r h 3)

theorem base_next (r : Fin 2) : base P (laneOf 1 r) = cont P (laneOf 0 r) 3 := by
  fin_cases r <;> rfl

theorem rows_next (r : Fin 2) : 8 * rows (laneOf 1 r) = 2 * rows (laneOf 0 r) := by revert r; decide

/-- One direction: the first ring's sums are what the second ring begins with. -/
theorem lane_down (r : Fin 2) :
    iprop(part_ P c (laneOf 0 r) 3 0 ∗ part_ P c (laneOf 0 r) 3 1)
      ⊢ (iprop((raw P c (laneOf 1 r) 0 0 ∗ raw P c (laneOf 1 r) 0 1) ∗ (raw P c (laneOf 1 r) 1 0 ∗ raw P c (laneOf 1 r) 1 1)
          ∗ (raw P c (laneOf 1 r) 2 0 ∗ raw P c (laneOf 1 r) 2 1) ∗ (raw P c (laneOf 1 r) 3 0 ∗ raw P c (laneOf 1 r) 3 1)) : sProp 𝕄) := by
  unfold part_ raw
  refine (chunk_halves c (cont P (laneOf 0 r) 3 c) (laneOf 0 r) 3).2.trans ?_
  rw [row_lo, ← rows_next, ← base_next]
  refine (lane_chunks c (base P (laneOf 1 r) c) (laneOf 1 r)).1.trans ?_
  exact BIClass.sep_mono (chunk_halves c _ _ 0).1 (BIClass.sep_mono (chunk_halves c _ _ 1).1 (BIClass.sep_mono (chunk_halves c _ _ 2).1 (chunk_halves c _ _ 3).1))

/-- A lane's rows, all at the final value. -/
theorem lane_up (l : Fin 4) :
    iprop((ready P c l 6 0 ∗ ready P c l 6 1) ∗ (ready P c l 5 0 ∗ ready P c l 5 1) ∗ (ready P c l 4 0 ∗ ready P c l 4 1)
        ∗ (ready P c l 3 0 ∗ ready P c l 3 1))
      ⊢ (piece c (lo c l) (8 * rows l) (fin P) : sProp 𝕄) := by
  unfold ready
  rw [show row c l 6 0 = row c l 2 0 from row_four c l 2 (by decide) 0, show row c l 6 1 = row c l 2 1 from row_four c l 2 (by decide) 1,
    show row c l 5 0 = row c l 1 0 from row_four c l 1 (by decide) 0, show row c l 5 1 = row c l 1 1 from row_four c l 1 (by decide) 1,
    show row c l 4 0 = row c l 0 0 from row_four c l 0 (by decide) 0, show row c l 4 1 = row c l 0 1 from row_four c l 0 (by decide) 1]
  refine BIBase.Entails.trans ?_ (lane_chunks c (fin P) l).2
  iintro ⟨H2, H1, H0, H3⟩
  isplitl [H0]; · iapply (chunk_halves c (fin P) l 0).2; iexact H0
  isplitl [H1]; · iapply (chunk_halves c (fin P) l 1).2; iexact H1
  isplitl [H2]; · iapply (chunk_halves c (fin P) l 2).2; iexact H2
  iapply (chunk_halves c (fin P) l 3).2; iexact H3

/-- From the first ring's sums to the second ring's beginning. -/
theorem ring_down :
    iprop((part_ P c (laneOf 0 0) 3 0 ∗ part_ P c (laneOf 0 1) 3 0) ∗ (part_ P c (laneOf 0 0) 3 1 ∗ part_ P c (laneOf 0 1) 3 1))
      ⊢ (iprop(raws P c 1 0 ∗ raws P c 1 1) : sProp 𝕄) := by
  iintro ⟨⟨HR0, HL0⟩, HR1, HL1⟩
  ihave HR := (lane_down P c 0) $$ [HR0 HR1]
  · isplitl [HR0]; · iexact HR0
    iexact HR1
  ihave HL := (lane_down P c 1) $$ [HL0 HL1]
  · isplitl [HL0]; · iexact HL0
    iexact HL1
  icases HR with ⟨⟨R00, R01⟩, ⟨R10, R11⟩, ⟨R20, R21⟩, R30, R31⟩
  icases HL with ⟨⟨L00, L01⟩, ⟨L10, L11⟩, ⟨L20, L21⟩, L30, L31⟩
  unfold raws raw2
  isplitl [R00 L00 R10 L10 R20 L20 R30 L30]
  · isplitl [R00 L00]
    · isplitl [R00]; · iexact R00
      iexact L00
    isplitl [R10 L10]
    · isplitl [R10]; · iexact R10
      iexact L10
    isplitl [R20 L20]
    · isplitl [R20]; · iexact R20
      iexact L20
    isplitl [R30]; · iexact R30
    iexact L30
  isplitl [R01 L01]
  · isplitl [R01]; · iexact R01
    iexact L01
  isplitl [R11 L11]
  · isplitl [R11]; · iexact R11
    iexact L11
  isplitl [R21 L21]
  · isplitl [R21]; · iexact R21
    iexact L21
  isplitl [R31]; · iexact R31
  iexact L31

/-- All rows of a half of a ring at the final value. -/
def readys (r h : Fin 2) : sProp 𝕄 := iprop(ready2 P c r h 6 ∗ ready2 P c r h 5 ∗ ready2 P c r h 4 ∗ ready2 P c r h 3)

theorem ring_join (r : Fin 2) :
    iprop(readys P c r 0 ∗ readys P c r 1)
      ⊢ (iprop(piece c (lo c (laneOf r 0)) (8 * rows (laneOf r 0)) (fin P) ∗ piece c (lo c (laneOf r 1)) (8 * rows (laneOf r 1)) (fin P)) : sProp 𝕄) := by
  unfold readys ready2
  iintro ⟨⟨⟨R60, L60⟩, ⟨R50, L50⟩, ⟨R40, L40⟩, R30, L30⟩, ⟨⟨R61, L61⟩, ⟨R51, L51⟩, ⟨R41, L41⟩, R31, L31⟩⟩
  isplitl [R60 R61 R50 R51 R40 R41 R30 R31]
  · iapply (lane_up P c (laneOf r 0))
    isplitl [R60 R61]
    · isplitl [R60]; · iexact R60
      iexact R61
    isplitl [R50 R51]
    · isplitl [R50]; · iexact R50
      iexact R51
    isplitl [R40 R41]
    · isplitl [R40]; · iexact R40
      iexact R41
    isplitl [R30]; · iexact R30
    iexact R31
  iapply (lane_up P c (laneOf r 1))
  isplitl [L60 L61]
  · isplitl [L60]; · iexact L60
    iexact L61
  isplitl [L50 L51]
  · isplitl [L50]; · iexact L50
    iexact L51
  isplitl [L40 L41]
  · isplitl [L40]; · iexact L40
    iexact L41
  isplitl [L30]; · iexact L30
  iexact L31

/-- From the second ring's end back to the first ring's reduced rows. -/
theorem ring_up : iprop(readys P c 1 0 ∗ readys P c 1 1) ⊢ (iprop(ready2 P c 0 0 3 ∗ ready2 P c 0 1 3) : sProp 𝕄) := by
  refine (ring_join P c 1).trans ?_
  rw [rows_next, rows_next, ← row_lo, ← row_lo]
  refine (BIClass.sep_mono (chunk_halves c (fin P) (laneOf 0 0) 3).1 (chunk_halves c (fin P) (laneOf 0 1) 3).1).trans ?_
  unfold ready2 ready
  iintro ⟨⟨R0, R1⟩, L0, L1⟩
  isplitl [R0 L0]
  · isplitl [R0]; · iexact R0
    iexact L0
  isplitl [R1]; · iexact R1
  iexact L1

/-- On the second ring the three sums are the final value. -/
theorem ring_fin (h : Fin 2) :
    iprop(part_ P c (laneOf 1 0) 3 h ∗ part_ P c (laneOf 1 1) 3 h) ⊢ (ready2 P c 1 h 3 : sProp 𝕄) := by
  unfold part_ ready2 ready
  exact BIClass.sep_mono (Entails.of_eq (piece_congr c fun i h₁ h₂ => fin_own P c 2 (by decide) h i h₁ h₂))
    (Entails.of_eq (piece_congr c fun i h₁ h₂ => fin_own P c 3 (by decide) h i h₁ h₂))

/-- The whole result at the final value. -/
theorem ring_all : iprop(readys P c 0 0 ∗ readys P c 0 1) ⊢ (outM.view.loc (c : Thread nD τ) ↦{fullShare} (fin P : Out F) : sProp 𝕄) := by
  rw [← piece_all]
  exact (ring_join P c 0).trans (out_halves c (fin P)).2

end Cert.KernelIdeal.Rings
-- ==== Proof.KI.Phases.lean ====
/- Whole phases of a ring, both halves, and the gemm blocks in between. -/
module

public import proofs.«01_k».proof.Proof.KI.Rows

@[expose] public section

set_option maxRecDepth 20000

noncomputable section

namespace Cert.KernelIdeal.Rings

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Out F) (K : Dev nD × Key → ℕ) (c : Dev nD)

/-! ## Both halves of a ring through one phase -/

theorem lvl_step (r : Fin 2) {n m : Fin 6} (h : n < m) : lvl (laneOf r 0) n < lvl (laneOf r 0) m := by
  revert r n m h; decide

theorem above_mono {k k' : ℕ} {ls : List Item} (h : k ≤ k') (ha : Above k' ls) : Above k ls := fun x hx => Nat.lt_of_le_of_lt h (ha x hx)

/-- The copies of a phase of ring `r` that follow its first ones. -/
def rest4 (r : Fin 2) (m n : Fin 6) (ls : List Item) : List Item := pr r m 0 ++ (pr r m 1 ++ (pr r n 0 ++ (pr r n 1 ++ ls)))

section
variable {ls : List Item} {r : Fin 2} {k m n : Fin 6}
theorem ab1 (hn : k < n) (ha : Above (lvl (laneOf r 0) n) ls) : Above (lvl (laneOf r 0) k) (pr r n 1 ++ ls) :=
  above_pr r n 1 (lvl_step r hn) (above_mono (Nat.le_of_lt (lvl_step r hn)) ha)
theorem ab2 (hn : k < n) (ha : Above (lvl (laneOf r 0) n) ls) : Above (lvl (laneOf r 0) k) (pr r n 0 ++ (pr r n 1 ++ ls)) :=
  above_pr r n 0 (lvl_step r hn) (ab1 hn ha)
theorem ab3 (hm : k < m) (hn : m < n) (ha : Above (lvl (laneOf r 0) n) ls) :
    Above (lvl (laneOf r 0) k) (pr r m 1 ++ (pr r n 0 ++ (pr r n 1 ++ ls))) :=
  above_pr r m 1 (lvl_step r hm) (ab2 (hm.trans hn) ha)
end

variable (r : Fin 2) (ls : List Item)

theorem open_rs2 :
    iprop(env P K ∗ (sA c r 0 ∗ sA c r 1) ∗ (raw2 P c r 0 0 ∗ raw2 P c r 1 0) ∗ owing c (pr r 0 0 ++ (pr r 0 1 ++ ls)))
      ⊢ (WP c (openP c r 0) fun _ => iprop((s0 c r 0 ∗ s0 c r 1) ∗ owing c ls) : sProp 𝕄) := by
  unfold openP
  iintro ⟨#HE, ⟨H0, H1⟩, ⟨R0, R1⟩, Ho⟩
  iapply (wp_block (open_rs P K c r 0 (pr r 0 1 ++ ls))) $$ [H0 R0 Ho]
  · isplitr; · iexact HE
    isplitl [H0]; · iexact H0
    isplitl [R0]; · iexact R0
    iexact Ho
  iintro ⟨H0, Ho⟩
  iapply (wp_last (open_rs P K c r 1 ls)) $$ [H1 R1 Ho]
  · isplitr; · iexact HE
    isplitl [H1]; · iexact H1
    isplitl [R1]; · iexact R1
    iexact Ho
  iintro ⟨H1, Ho⟩
  isplitl [H0 H1]
  · isplitl [H0]; · iexact H0
    iexact H1
  iexact Ho

theorem open_ag2 :
    iprop(env P K ∗ (s3 c r 0 ∗ s3 c r 1) ∗ (ready2 P c r 0 3 ∗ ready2 P c r 1 3) ∗ owing c (pr r 3 0 ++ (pr r 3 1 ++ ls)))
      ⊢ (WP c (openP c r 3) fun _ => iprop((s4 c r 0 ∗ s4 c r 1) ∗ owing c ls) : sProp 𝕄) := by
  unfold openP
  iintro ⟨#HE, ⟨H0, H1⟩, ⟨R0, R1⟩, Ho⟩
  iapply (wp_block (open_ag P K c r 0 (pr r 3 1 ++ ls))) $$ [H0 R0 Ho]
  · isplitr; · iexact HE
    isplitl [H0]; · iexact H0
    isplitl [R0]; · iexact R0
    iexact Ho
  iintro ⟨H0, Ho⟩
  iapply (wp_last (open_ag P K c r 1 ls)) $$ [H1 R1 Ho]
  · isplitr; · iexact HE
    isplitl [H1]; · iexact H1
    isplitl [R1]; · iexact R1
    iexact Ho
  iintro ⟨H1, Ho⟩
  isplitl [H0 H1]
  · isplitl [H0]; · iexact H0
    iexact H1
  iexact Ho

/-- One step of a first phase, both halves. -/
def goBoth (a b : Fin 6) (k : KProg (F := F)) : KProg (F := F) := do
  goP c r a b 0
  goP c r a b 1
  k

theorem go2_rs0 (ha : Above (lvl (laneOf r 0) 2) ls) {k : KProg (F := F)} {Q : PUnit → sProp 𝕄} :
    iprop(env P K ∗ (s0 c r 0 ∗ s0 c r 1) ∗ (raw2 P c r 0 1 ∗ raw2 P c r 1 1) ∗ owing c (rest4 r 1 2 ls))
      ⊢ iprop(((s1 c r 0 ∗ s1 c r 1) ∗ owing c (pr r 2 0 ++ (pr r 2 1 ++ ls)) -∗ WP c k Q) -∗ WP c (goBoth c r 0 1 k) Q) := by
  unfold goBoth rest4
  iintro ⟨#HE, ⟨H0, H1⟩, ⟨R0, R1⟩, Ho⟩ Hk
  iapply (wp_block (go_rs0 P K c r 0 _ (ab3 (m := 1) (n := 2) (by decide) (by decide) ha))) $$ [H0 R0 Ho]
  · isplitr; · iexact HE
    isplitl [H0]; · iexact H0
    isplitl [R0]; · iexact R0
    iexact Ho
  iintro ⟨H0, Ho⟩
  iapply (wp_block (go_rs0 P K c r 1 _ (ab2 (n := 2) (by decide) ha))) $$ [H1 R1 Ho]
  · isplitr; · iexact HE
    isplitl [H1]; · iexact H1
    isplitl [R1]; · iexact R1
    iexact Ho
  iintro ⟨H1, Ho⟩
  iapply Hk
  isplitl [H0 H1]
  · isplitl [H0]; · iexact H0
    iexact H1
  iexact Ho

theorem go2_rs1 (ha : Above (lvl (laneOf r 0) 2) ls) {k : KProg (F := F)} {Q : PUnit → sProp 𝕄} :
    iprop(env P K ∗ (s1 c r 0 ∗ s1 c r 1) ∗ (raw2 P c r 0 2 ∗ raw2 P c r 1 2) ∗ owing c (pr r 2 0 ++ (pr r 2 1 ++ ls)))
      ⊢ iprop(((s2 c r 0 ∗ s2 c r 1) ∗ owing c ls -∗ WP c k Q) -∗ WP c (goBoth c r 1 2 k) Q) := by
  unfold goBoth
  iintro ⟨#HE, ⟨H0, H1⟩, ⟨R0, R1⟩, Ho⟩ Hk
  iapply (wp_block (go_rs1 P K c r 0 _ (ab1 (n := 2) (by decide) ha))) $$ [H0 R0 Ho]
  · isplitr; · iexact HE
    isplitl [H0]; · iexact H0
    isplitl [R0]; · iexact R0
    iexact Ho
  iintro ⟨H0, Ho⟩
  iapply (wp_block (go_rs1 P K c r 1 _ (above_mono (Nat.le_of_lt (lvl_step r (n := 1) (by decide))) ha))) $$ [H1 R1 Ho]
  · isplitr; · iexact HE
    isplitl [H1]; · iexact H1
    isplitl [R1]; · iexact R1
    iexact Ho
  iintro ⟨H1, Ho⟩
  iapply Hk
  isplitl [H0 H1]
  · isplitl [H0]; · iexact H0
    iexact H1
  iexact Ho

/-- The sums of the first phase, in their last place. -/
def sums (h : Fin 2) : sProp 𝕄 := iprop(part_ P c (laneOf r 0) 3 h ∗ part_ P c (laneOf r 1) 3 h)

theorem end2_rs (ha : Above (lvl (laneOf r 0) 2) ls) {Q : PUnit → sProp 𝕄} :
    iprop(env P K ∗ (s2 c r 0 ∗ s2 c r 1) ∗ (raw2 P c r 0 3 ∗ raw2 P c r 1 3) ∗ owing c ls)
      ⊢ iprop(((s3 c r 0 ∗ s3 c r 1) ∗ (sums P c r 0 ∗ sums P c r 1) ∗ owing c ls -∗ Q ⟨⟩)
        -∗ WP c (do endP c r 2 0; endP c r 2 1) Q) := by
  unfold sums
  iintro ⟨#HE, ⟨H0, H1⟩, ⟨R0, R1⟩, Ho⟩ Hk
  iapply (wp_block (end_rs P K c r 0 ls ha)) $$ [H0 R0 Ho]
  · isplitr; · iexact HE
    isplitl [H0]; · iexact H0
    isplitl [R0]; · iexact R0
    iexact Ho
  iintro ⟨H0, R0, Ho⟩
  iapply (wp_last (end_rs P K c r 1 ls ha)) $$ [H1 R1 Ho]
  · isplitr; · iexact HE
    isplitl [H1]; · iexact H1
    isplitl [R1]; · iexact R1
    iexact Ho
  iintro ⟨H1, R1, Ho⟩
  iapply Hk
  isplitl [H0 H1]
  · isplitl [H0]; · iexact H0
    iexact H1
  isplitl [R0 R1]
  · isplitl [R0]; · iexact R0
    iexact R1
  iexact Ho

/-- The second ring's first phase. -/
theorem phase_rs (ha : Above (lvl (laneOf r 0) 2) ls) :
    iprop(env P K ∗ (s0 c r 0 ∗ s0 c r 1) ∗ (raw2 P c r 0 1 ∗ raw2 P c r 1 1) ∗ (raw2 P c r 0 2 ∗ raw2 P c r 1 2)
        ∗ (raw2 P c r 0 3 ∗ raw2 P c r 1 3) ∗ owing c (rest4 r 1 2 ls))
      ⊢ (WP c (phaseP c r 0 1 2) fun _ => iprop((s3 c r 0 ∗ s3 c r 1) ∗ (sums P c r 0 ∗ sums P c r 1) ∗ owing c ls) : sProp 𝕄) := by
  show _ ⊢ (WP c (goBoth c r 0 1 (goBoth c r 1 2 (do endP c r 2 0; endP c r 2 1))) _ : sProp 𝕄)
  iintro ⟨#HE, H, R1, R2, R3, Ho⟩
  iapply (go2_rs0 P K c r ls ha) $$ [H R1 Ho]
  · isplitr; · iexact HE
    isplitl [H]; · iexact H
    isplitl [R1]; · iexact R1
    iexact Ho
  iintro ⟨H, Ho⟩
  iapply (go2_rs1 P K c r ls ha) $$ [H R2 Ho]
  · isplitr; · iexact HE
    isplitl [H]; · iexact H
    isplitl [R2]; · iexact R2
    iexact Ho
  iintro ⟨H, Ho⟩
  iapply (end2_rs P K c r ls ha) $$ [H R3 Ho]
  · isplitr; · iexact HE
    isplitl [H]; · iexact H
    isplitl [R3]; · iexact R3
    iexact Ho
  iintro H; iexact H

/-- A ring's second phase. -/
theorem phase_ag (ha : Above (lvl (laneOf r 0) 5) ls) :
    iprop(env P K ∗ (s4 c r 0 ∗ s4 c r 1) ∗ owing c (rest4 r 4 5 ls))
      ⊢ (WP c (phaseP c r 3 4 5) fun _ => iprop((s7 P c r 0 ∗ s7 P c r 1) ∗ owing c ls) : sProp 𝕄) := by
  unfold phaseP rest4
  iintro ⟨#HE, ⟨H0, H1⟩, Ho⟩
  iapply (wp_block (go_ag3 P K c r 0 _ (ab3 (m := 4) (n := 5) (by decide) (by decide) ha))) $$ [H0 Ho]
  · isplitr; · iexact HE
    isplitl [H0]; · iexact H0
    iexact Ho
  iintro ⟨H0, Ho⟩
  iapply (wp_block (go_ag3 P K c r 1 _ (ab2 (n := 5) (by decide) ha))) $$ [H1 Ho]
  · isplitr; · iexact HE
    isplitl [H1]; · iexact H1
    iexact Ho
  iintro ⟨H1, Ho⟩
  iapply (wp_block (go_ag4 P K c r 0 _ (ab1 (n := 5) (by decide) ha))) $$ [H0 Ho]
  · isplitr; · iexact HE
    isplitl [H0]; · iexact H0
    iexact Ho
  iintro ⟨H0, Ho⟩
  iapply (wp_block (go_ag4 P K c r 1 _ (above_mono (Nat.le_of_lt (lvl_step r (n := 4) (by decide))) ha))) $$ [H1 Ho]
  · isplitr; · iexact HE
    isplitl [H1]; · iexact H1
    iexact Ho
  iintro ⟨H1, Ho⟩
  iapply (wp_block (end_ag P K c r 0 ls ha)) $$ [H0 Ho]
  · isplitr; · iexact HE
    isplitl [H0]; · iexact H0
    iexact Ho
  iintro ⟨H0, Ho⟩
  iapply (wp_last (end_ag P K c r 1 ls ha)) $$ [H1 Ho]
  · isplitr; · iexact HE
    isplitl [H1]; · iexact H1
    iexact Ho
  iintro ⟨H1, Ho⟩
  isplitl [H0 H1]
  · isplitl [H0]; · iexact H0
    iexact H1
  iexact Ho

/-! ## The gemm blocks -/

/-- The rows of a gemm block, at any contents. -/
def chunk (σ : Fin 2) (n : ℕ) : sProp 𝕄 := iprop(∃ f, piece c (row c (laneOf 0 σ) n 0) 128 f)

variable (x w : Vec F S1024x4096 .f32) (hP : P c = part x w)

theorem row_128 (σ : Fin 2) (n : Fin 4) : ∃ k : Fin 8, row c (laneOf 0 σ) n.val 0 = 128 * k.val := by
  have : 128 * (row c (laneOf 0 σ) n.val 0 / 128) = row c (laneOf 0 σ) n.val 0 ∧ row c (laneOf 0 σ) n.val 0 / 128 < 8 := by
    revert c σ n; decide +kernel
  exact ⟨⟨_, this.2⟩, this.1.symm⟩

include hP in
/-- A gemm block leaves the two halves of its rows at the partial product. -/
theorem gemm_lane (σ : Fin 2) (n : Fin 4) (o₁ o₂ : Fin 2 → ℕ)
    (ha : ∀ j, o₁ j + S128x4096.size j ≤ S1024x4096.size j) (ho : ∀ j, o₂ j + S128x1024.size j ≤ S1024x1024.size j)
    (h₁ : o₁ = at2 (row c (laneOf 0 σ) n.val 0)) (h₂ : o₂ = at2 (row c (laneOf 0 σ) n.val 0)) :
    iprop(opnds c x w ∗ chunk c σ n.val)
      ⊢ (WP c (gemmP o₁ ha o₂ ho) fun _ => iprop(opnds c x w ∗ raw P c (laneOf 0 σ) n.val 0 ∗ raw P c (laneOf 0 σ) n.val 1) : sProp 𝕄) := by
  obtain ⟨k, hk⟩ := row_128 c σ n
  unfold chunk
  iintro ⟨Hx, ⟨%f, Hp⟩⟩
  have hb : base P (laneOf 0 σ) c = part x w := by rw [← hP]; fin_cases σ <;> rfl
  have hr : 128 = 2 * rows (laneOf 0 σ) := by fin_cases σ <;> rfl
  have e : (piece c (128 * k.val) 128 (part x w) : sProp 𝕄) ⊢ iprop(raw P c (laneOf 0 σ) n.val 0 ∗ raw P c (laneOf 0 σ) n.val 1) := by
    unfold raw
    rw [hb, ← hk, hr]; exact (chunk_halves c (part x w) (laneOf 0 σ) n.val).1
  rw [hk] at h₁ h₂ ⊢
  iapply (wp_last (gemm_wp c x w f k o₁ o₂ ha ho h₁ h₂)) $$ [Hx Hp]
  · isplitl [Hx]; · iexact Hx
    iexact Hp
  iintro ⟨Hx, Hp⟩
  isplitl [Hx]; · iexact Hx
  iapply e; iexact Hp

include hP in
theorem gemm_both (n : Fin 4) (o₁ o₂ o₃ o₄ : Fin 2 → ℕ)
    (ha : ∀ j, o₁ j + S128x4096.size j ≤ S1024x4096.size j) (ho : ∀ j, o₂ j + S128x1024.size j ≤ S1024x1024.size j)
    (ha' : ∀ j, o₃ j + S128x4096.size j ≤ S1024x4096.size j) (ho' : ∀ j, o₄ j + S128x1024.size j ≤ S1024x1024.size j)
    (h : (o₁ = at2 (row c 0 n.val 0) ∧ o₂ = at2 (row c 0 n.val 0)) ∧ o₃ = at2 (row c 1 n.val 0) ∧ o₄ = at2 (row c 1 n.val 0)) :
    iprop(opnds c x w ∗ chunk c 0 n.val ∗ chunk c 1 n.val)
      ⊢ (WP c (do gemmP o₁ ha o₂ ho; gemmP o₃ ha' o₄ ho') fun _ => iprop(opnds c x w ∗ (raw2 P c 0 0 n.val ∗ raw2 P c 0 1 n.val)) : sProp 𝕄) := by
  iintro ⟨Hx, HR, HL⟩
  iapply (wp_block (gemm_lane P c x w hP 0 n o₁ o₂ ha ho h.1.1 h.1.2)) $$ [Hx HR]
  · isplitl [Hx]; · iexact Hx
    iexact HR
  iintro ⟨Hx, R0, R1⟩
  iapply (wp_last (gemm_lane P c x w hP 1 n o₃ o₄ ha' ho' h.2.1 h.2.2)) $$ [Hx HL]
  · isplitl [Hx]; · iexact Hx
    iexact HL
  iintro ⟨Hx, L0, L1⟩
  unfold raw2
  isplitl [Hx]; · iexact Hx
  isplitl [R0 L0]
  · isplitl [R0]; · iexact R0
    iexact L0
  isplitl [R1]; · iexact R1
  iexact L1

include hP in
theorem gemm0_wp : iprop(opnds c x w ∗ chunk c 0 0 ∗ chunk c 1 0)
    ⊢ (WP c (gemm0P c) fun _ => iprop(opnds c x w ∗ (raw2 P c 0 0 0 ∗ raw2 P c 0 1 0)) : sProp 𝕄) := by
  unfold gemm0P
  exact gemm_both P c x w hP 0 _ _ _ _ _ _ _ _ (gemm_off c)

include hP in
theorem gemms_wp (s : Fin 3) : iprop(opnds c x w ∗ chunk c 0 (s.val + 1) ∗ chunk c 1 (s.val + 1))
    ⊢ (WP c (gemmsP c s) fun _ => iprop(opnds c x w ∗ (raw2 P c 0 0 (s.val + 1) ∗ raw2 P c 0 1 (s.val + 1))) : sProp 𝕄) := by
  unfold gemmsP
  exact gemm_both P c x w hP ⟨s.val + 1, by omega⟩ _ _ _ _ _ _ _ _ (gemms_off c s)

include hP in
/-- The first ring's first phase, with the gemm blocks in between. -/
theorem first_wp (ha : Above (lvl (laneOf 0 0) 2) ls) :
    iprop(env P K ∗ opnds c x w ∗ (s0 c 0 0 ∗ s0 c 0 1) ∗ (chunk c 0 1 ∗ chunk c 1 1) ∗ (chunk c 0 2 ∗ chunk c 1 2) ∗ (chunk c 0 3 ∗ chunk c 1 3)
        ∗ owing c (rest4 0 1 2 ls))
      ⊢ (WP c (firstP c) fun _ => iprop(opnds c x w ∗ (s3 c 0 0 ∗ s3 c 0 1) ∗ (sums P c 0 0 ∗ sums P c 0 1) ∗ owing c ls) : sProp 𝕄) := by
  show _ ⊢ (WP c (do gemmsP c 0; goBoth c 0 0 1 (do gemmsP c 1; goBoth c 0 1 2 (do gemmsP c 2; endP c 0 2 0; endP c 0 2 1))) _ : sProp 𝕄)
  iintro ⟨#HE, Hx, H, C1, C2, C3, Ho⟩
  iapply (wp_block (gemms_wp P c x w hP 0)) $$ [Hx C1]
  · isplitl [Hx]; · iexact Hx
    iexact C1
  iintro ⟨Hx, R1⟩
  iapply (go2_rs0 P K c 0 ls ha) $$ [H R1 Ho]
  · isplitr; · iexact HE
    isplitl [H]; · iexact H
    isplitl [R1]; · iexact R1
    iexact Ho
  iintro ⟨H, Ho⟩
  iapply (wp_block (gemms_wp P c x w hP 1)) $$ [Hx C2]
  · isplitl [Hx]; · iexact Hx
    iexact C2
  iintro ⟨Hx, R2⟩
  iapply (go2_rs1 P K c 0 ls ha) $$ [H R2 Ho]
  · isplitr; · iexact HE
    isplitl [H]; · iexact H
    isplitl [R2]; · iexact R2
    iexact Ho
  iintro ⟨H, Ho⟩
  iapply (wp_block (gemms_wp P c x w hP 2)) $$ [Hx C3]
  · isplitl [Hx]; · iexact Hx
    iexact C3
  iintro ⟨Hx, R3⟩
  iapply (end2_rs P K c 0 ls ha) $$ [H R3 Ho]
  · isplitr; · iexact HE
    isplitl [H]; · iexact H
    isplitl [R3]; · iexact R3
    iexact Ho
  iintro H
  isplitl [Hx]; · iexact Hx
  iexact H

/-- The result's buffer, any contents, as the rows of the gemm blocks. -/
theorem chunks_intro (f : Out F) : (outM.view.loc (c : Thread nD τ) ↦{fullShare} f : sProp 𝕄)
    ⊢ iprop((chunk c 0 0 ∗ chunk c 1 0) ∗ (chunk c 0 1 ∗ chunk c 1 1) ∗ (chunk c 0 2 ∗ chunk c 1 2) ∗ (chunk c 0 3 ∗ chunk c 1 3)) := by
  rw [← piece_all]
  refine ((out_halves c f).1.trans (BIClass.sep_mono (lane_chunks c f 0).1 (lane_chunks c f 1).1)).trans ?_
  unfold chunk
  iintro ⟨⟨R0, R1, R2, R3⟩, L0, L1, L2, L3⟩
  isplitl [R0 L0]
  · isplitl [R0]; · iexists f; iexact R0
    iexists f; iexact L0
  isplitl [R1 L1]
  · isplitl [R1]; · iexists f; iexact R1
    iexists f; iexact L1
  isplitl [R2 L2]
  · isplitl [R2]; · iexists f; iexact R2
    iexists f; iexact L2
  isplitl [R3]; · iexists f; iexact R3
  iexists f; iexact L3

end Cert.KernelIdeal.Rings
-- ==== Proof.KI.Body.lean ====
/- The kernel's body as one step: the barrier, the two rings' phases, and all semaphores back at zero. -/
module

public import proofs.«01_k».proof.Proof.KI.Phases

@[expose] public section

set_option maxRecDepth 20000

noncomputable section

namespace Cert.KernelIdeal.Rings

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Out F) (K : Dev nD × Key → ℕ) (c : Dev nD)

/-! ## What a lane starts from and what it ends with -/

theorem bigSep_fin2 (Φ : Fin 2 → sProp 𝕄) : bigSep Finset.univ Φ = iprop(Φ 0 ∗ Φ 1) :=
  bigSep_univ_eq_bigSepL [0, 1] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- One half of a lane before the start: its own copies' place, and every step's duties and wait. -/
def seed (l : Fin 4) (h : Fin 2) : sProp 𝕄 :=
  iprop(atS c l 0 h ∗ bigSep Finset.univ fun n : Fin 6 => iprop(toks c l n h ∗ wt c l n h))

/-- The seven semaphores of one half of a lane, at zero. -/
def shut (l : Fin 4) (h : Fin 2) : sProp 𝕄 :=
  bigSep Finset.univ fun k : Fin 7 => semVal ((c : Thread nD τ), .dma (semOf (l, h, k))) 0

theorem tw_slot (l : Fin 4) (n : Fin 6) (h : Fin 2) (hn : n.val < 3) :
    iprop((toks c l n h ∗ wt c l n h) ∗ slot (nbr c l) l ⟨n.val, hn⟩ h) ⊢ (tw c l n h : sProp 𝕄) := by
  unfold tw; rw [dif_pos hn]
  iintro ⟨⟨H1, H2⟩, H3⟩
  isplitl [H1]; · iexact H1
  isplitl [H2]; · iexact H2
  iexact H3
theorem tw_none (l : Fin 4) (n : Fin 6) (h : Fin 2) (hn : ¬ n.val < 3) : iprop(toks c l n h ∗ wt c l n h) ⊢ (tw c l n h : sProp 𝕄) := by
  unfold tw; rw [dif_neg hn]
  iintro ⟨H1, H2⟩
  isplitl [H1]; · iexact H1
  isplitl [H2]; · iexact H2
  iempintro

theorem lane_intro (l : Fin 4) (h : Fin 2) :
    iprop(seed c l h ∗ slots (nbr c l) l h) ⊢ (iprop(atS c l 0 h ∗ todo c l h [0, 1, 2, 3, 4, 5]) : sProp 𝕄) := by
  unfold seed slots todo todo todo todo todo todo todo
  rw [bigSep_fin6]
  iintro ⟨⟨Ha, T0, T1, T2, T3, T4, T5⟩, S0, S1, S2⟩
  isplitl [Ha]; · iexact Ha
  isplitl [T0 S0]
  · iapply (tw_slot c l 0 h (by decide))
    isplitl [T0]; · iexact T0
    iexact S0
  isplitl [T1 S1]
  · iapply (tw_slot c l 1 h (by decide))
    isplitl [T1]; · iexact T1
    iexact S1
  isplitl [T2 S2]
  · iapply (tw_slot c l 2 h (by decide))
    isplitl [T2]; · iexact T2
    iexact S2
  isplitl [T3]; · iapply (tw_none c l 3 h (by decide)); iexact T3
  isplitl [T4]; · iapply (tw_none c l 4 h (by decide)); iexact T4
  isplitl [T5]; · iapply (tw_none c l 5 h (by decide)); iexact T5
  iempintro

theorem close_rcv (l : Fin 4) (n : Fin 6) (h : Fin 2) :
    iprop(env P K ∗ got c l n h) ⊢ (|={Set.univ}=> semVal (rcvCell c l n h) 0 : sProp 𝕄) := by
  unfold got
  iintro ⟨#HE, Ha⟩
  iapply (Rounds.cell_close ER (sched P) (g := rcvCell c l n h) (Set.mem_univ (K (c, rcvKey l n h))) (fun h => h) (R := 1) (later_rcv P c l n h))
  isplitr; · iapply (inv_rcv P K c l n h); iexact HE
  iexact Ha

theorem close_snd (l : Fin 4) (h : Fin 2) :
    iprop(env P K ∗ atS c l 6 h) ⊢ (|={Set.univ}=> semVal (sndCell c l h) 0 : sProp 𝕄) := by
  unfold atS
  iintro ⟨#HE, Ha, -⟩
  iapply (Rounds.cell_close ER (sched P) (g := sndCell c l h) (Set.mem_univ (K (c, sndKey l h))) (fun h => h) (R := 6) (later_snd P c l h))
  isplitr; · iapply (inv_snd P K c l h); iexact HE
  iexact Ha

/-- A step that was made gives its semaphore back, -/
theorem close_none (l : Fin 4) (n : Fin 6) (h : Fin 2) :
    iprop(env P K ∗ dn c l n h) ⊢ (|={Set.univ}=> semVal ((c : Thread nD τ), .dma (semOf (l, h, ⟨n.val, by omega⟩))) 0 : sProp 𝕄) := by
  unfold dn
  rw [show semOf (l, h, ⟨n.val, by omega⟩) = rcvSem l n h from dif_pos n.isLt]
  iintro ⟨#HE, Hg, -⟩
  iapply (close_rcv P K c l n h)
  isplitr; · iexact HE
  iexact Hg

/-- and in a first phase its slot besides. -/
theorem close_slot (l : Fin 4) (n : Fin 6) (h : Fin 2) (hn : n.val < 3) :
    iprop(env P K ∗ dn c l n h) ⊢ (|={Set.univ}=> iprop(semVal ((c : Thread nD τ), .dma (semOf (l, h, ⟨n.val, by omega⟩))) 0
      ∗ slot c l ⟨n.val, hn⟩ h) : sProp 𝕄) := by
  unfold dn
  rw [show semOf (l, h, ⟨n.val, by omega⟩) = rcvSem l n h from dif_pos n.isLt, dif_pos hn]
  iintro ⟨#HE, Hg, Hs⟩
  imod (close_rcv P K c l n h) $$ [Hg] with Hv
  · isplitr; · iexact HE
    iexact Hg
  imodintro
  isplitl [Hv]; · iexact Hv
  iexact Hs

theorem lane_close (l : Fin 4) (h : Fin 2) :
    iprop(env P K ∗ atS c l 6 h ∗ made c l h [5, 4, 3, 2, 1, 0]) ⊢ (|={Set.univ}=> iprop(slots c l h ∗ shut c l h) : sProp 𝕄) := by
  unfold made made made made made made made
  iintro ⟨#HE, Ha, H5, H4, H3, H2, H1, H0, -⟩
  imod (close_snd P K c l h) $$ [Ha] with V6
  · isplitr; · iexact HE
    iexact Ha
  imod (close_slot P K c l 0 h (by decide)) $$ [H0] with ⟨V0, S0⟩
  · isplitr; · iexact HE
    iexact H0
  imod (close_slot P K c l 1 h (by decide)) $$ [H1] with ⟨V1, S1⟩
  · isplitr; · iexact HE
    iexact H1
  imod (close_slot P K c l 2 h (by decide)) $$ [H2] with ⟨V2, S2⟩
  · isplitr; · iexact HE
    iexact H2
  imod (close_none P K c l 3 h) $$ [H3] with V3
  · isplitr; · iexact HE
    iexact H3
  imod (close_none P K c l 4 h) $$ [H4] with V4
  · isplitr; · iexact HE
    iexact H4
  imod (close_none P K c l 5 h) $$ [H5] with V5
  · isplitr; · iexact HE
    iexact H5
  imodintro
  unfold slots shut
  rw [bigSep_fin7]
  isplitl [S0 S1 S2]
  · isplitl [S0]; · iexact S0
    isplitl [S1]; · iexact S1
    iexact S2
  isplitl [V0]; · iexact V0
  isplitl [V1]; · iexact V1
  isplitl [V2]; · iexact V2
  isplitl [V3]; · iexact V3
  isplitl [V4]; · iexact V4
  isplitl [V5]; · iexact V5
  iexact V6

/-- A ring's half at the end: the reduced rows, the slots and the semaphores. -/
theorem half_close (r h : Fin 2) :
    iprop(env P K ∗ s7 P c r h) ⊢ (|={Set.univ}=> iprop(readys P c r h ∗ (slots c (laneOf r 0) h ∗ shut c (laneOf r 0) h)
      ∗ (slots c (laneOf r 1) h ∗ shut c (laneOf r 1) h)) : sProp 𝕄) := by
  unfold s7 atS2 made2 readys
  iintro ⟨#HE, ⟨AR, AL⟩, ⟨MR, ML⟩, H⟩
  imod (lane_close P K c (laneOf r 0) h) $$ [AR MR] with HR
  · isplitr; · iexact HE
    isplitl [AR]; · iexact AR
    iexact MR
  imod (lane_close P K c (laneOf r 1) h) $$ [AL ML] with HL
  · isplitr; · iexact HE
    isplitl [AL]; · iexact AL
    iexact ML
  imodintro
  isplitl [H]; · iexact H
  isplitl [HR]; · iexact HR
  iexact HL

/-! ## The barrier -/

/-- Both halves of a lane's receive buffer on a device. -/
def buf (d : Dev nD) (l : Fin 4) : sProp 𝕄 := iprop(slots d l 0 ∗ slots d l 1)

theorem barPay_buf (l l' : Fin 4) (hl : l = opp l') : (barPay c l : sProp 𝕄) ⊢ buf (nbr c l') l' := by
  subst hl; unfold barPay buf prv; rw [opp_opp]

/-- A barrier signal on lane `l`: the own receive buffer of the other direction goes to the neighbour. -/
theorem sig_wp (l l' : Fin 4) (hl : l' = opp l) (ls : List Item) (t : Dev nD) (ht : t = nbr c l) :
    iprop(env P K ∗ dutyTok ER (barCell (nbr c l)) 0 l ∗ buf c l' ∗ owing c (.inl l :: ls))
      ⊢ (WP c (semSignalWord t barSem 1#32) fun _ => owing c ls : sProp 𝕄) := by
  subst ht hl
  unfold owing buf
  simp only [semSignalWord]
  iintro ⟨#HE, Ht, Hs, ⟨%W, Ho⟩⟩
  iapply (Rounds.wp_signal 𝒱₀ ER (sched P) (c : Thread nD τ) none (dst := (nbr c l : Thread nD τ)) (κ := K (nbr c l, .inl ()))
      (d := l) (by rw [duties_bar]; exact Finset.mem_univ _) ((amount_bar P (nbr c l) 0 l).trans (by decide)) () (debt c ls) rfl (W := W)) $$ [Ho Ht Hs]
  · isplitr; · iapply (inv_bar P K (nbr c l)); iexact HE
    isplitl [Ho]; · iexact Ho
    isplitl [Ht]; · iexact Ht
    isplitl [Hs]
    · rw [payload_bar]; unfold barPay; rw [prv_nbr]; iexact Hs
    iapply (reached_bar P K (nbr c l)); iexact HE
  iintro Ho
  rw [wp_ret]; imodintro
  iexists W; iexact Ho

theorem barWait_wp (ls : List Item) (ha : Above 1 ls) :
    iprop(env P K ∗ cred (tallyAt (barCell c) () 4) ∗ atPos ER (barCell c) 0 ∅ 0 ∗ owing c ls)
      ⊢ (WP c (semWaitWord barSem 4#32) fun _ => iprop((barPay c 0 ∗ barPay c 1 ∗ barPay c 2 ∗ barPay c 3) ∗ semVal (barCell c) 0 ∗ owing c ls) : sProp 𝕄) := by
  have hab : (levAts L lv : sProp 𝕄) ⊢ MayWait (c : Thread nD τ) (.reg barSem) () (debt c ls) := by
    have e : lv ((c : Thread nD τ), SemLoc.reg barSem) () = 1 := lv_bar c
    exact mayWait c (.reg barSem) ls (by rw [e]; exact ha)
  unfold owing
  simp only [semWaitWord]
  iintro ⟨#HE, Hc, Ha, ⟨%W, Ho⟩⟩
  iapply (Rounds.wp_wait_rest_token 𝒱₀ ER (sched P) (c : Thread nD τ) none (κ := K (c, .inl ()))
      (wpE_semWait_eq 𝒱₀ (c : Thread nD τ) none Set.univ) (Set.mem_univ _) () (O := debt c ls) (W := W) (R := 0) (m := 0) (T := ∅)
      (by rw [expect_bar]; decide)) $$ [Hc Ho Ha]
  · isplitr; · iapply (inv_bar P K c); iexact HE
    isplitl [Hc]; · iexact Hc
    isplitl [Ho]; · iexact Ho
    isplitr; · iapply ((env_lev P K).trans hab); iexact HE
    iexact Ha
  iintro ⟨Ho, Ha, -, Hpay⟩
  ihave Hp := (Entails.of_eq (rest_bar P c)) $$ Hpay
  imod (Rounds.cell_close ER (sched P) (g := barCell c) (Set.mem_univ (K (c, .inl ()))) (fun h => h) (R := 1) (later_bar P c)) $$ [Ha] with Hv
  · isplitr; · iapply (inv_bar P K c); iexact HE
    iexact Ha
  rw [wp_ret]; imodintro
  isplitl [Hp]; · iexact Hp
  isplitl [Hv]; · iexact Hv
  iexists _; iexact Ho

/-- What the barrier needs. -/
def barSeed : sProp 𝕄 :=
  iprop((dutyTok ER (barCell (nbr c 0)) 0 0 ∗ dutyTok ER (barCell (nbr c 1)) 0 1 ∗ dutyTok ER (barCell (nbr c 2)) 0 2 ∗ dutyTok ER (barCell (nbr c 3)) 0 3)
    ∗ cred (tallyAt (barCell c) () 4) ∗ atPos ER (barCell c) 0 ∅ 0)

theorem bar_wp (ls : List Item) (ha : Above 1 ls) :
    iprop(env P K ∗ barSeed c ∗ (buf c 0 ∗ buf c 1 ∗ buf c 2 ∗ buf c 3) ∗ owing c (.inl 0 :: .inl 1 :: .inl 2 :: .inl 3 :: ls))
      ⊢ (WP c (barP c) fun _ => iprop((buf (nbr c 0) 0 ∗ buf (nbr c 1) 1 ∗ buf (nbr c 2) 2 ∗ buf (nbr c 3) 3) ∗ semVal (barCell c) 0 ∗ owing c ls) : sProp 𝕄) := by
  unfold barP barSeed
  iintro ⟨#HE, ⟨⟨T0, T1, T2, T3⟩, Hc, Ha⟩, ⟨B0, B1, B2, B3⟩, Ho⟩
  iapply (wp_block (sig_wp P K c 0 1 rfl _ _ (bar1 c))) $$ [T0 B1 Ho]
  · isplitr; · iexact HE
    isplitl [T0]; · iexact T0
    isplitl [B1]; · iexact B1
    iexact Ho
  iintro Ho
  iapply (wp_block (sig_wp P K c 1 0 rfl _ _ (bar2 c))) $$ [T1 B0 Ho]
  · isplitr; · iexact HE
    isplitl [T1]; · iexact T1
    isplitl [B0]; · iexact B0
    iexact Ho
  iintro Ho
  iapply (wp_block (sig_wp P K c 2 3 rfl _ _ (bar3 c))) $$ [T2 B3 Ho]
  · isplitr; · iexact HE
    isplitl [T2]; · iexact T2
    isplitl [B3]; · iexact B3
    iexact Ho
  iintro Ho
  iapply (wp_block (sig_wp P K c 3 2 rfl _ _ (bar4 c))) $$ [T3 B2 Ho]
  · isplitr; · iexact HE
    isplitl [T3]; · iexact T3
    isplitl [B2]; · iexact B2
    iexact Ho
  iintro Ho
  iapply (wp_last (barWait_wp P K c ls ha)) $$ [Hc Ha Ho]
  · isplitr; · iexact HE
    isplitl [Hc]; · iexact Hc
    isplitl [Ha]; · iexact Ha
    iexact Ho
  iintro ⟨⟨P0, P1, P2, P3⟩, Hv, Ho⟩
  isplitl [P0 P1 P2 P3]
  · isplitl [P1]; · iapply (barPay_buf c 1 0 rfl); iexact P1
    isplitl [P0]; · iapply (barPay_buf c 0 1 rfl); iexact P0
    isplitl [P3]; · iapply (barPay_buf c 3 2 rfl); iexact P3
    iapply (barPay_buf c 2 3 rfl); iexact P2
  isplitl [Hv]; · iexact Hv
  iexact Ho

/-! ## The whole body -/

/-- The copies still owed when a phase opens. -/
def ls3 : List Item := pr 0 3 0 ++ (pr 0 3 1 ++ rest4 0 4 5 [])
def ls2 : List Item := pr 1 3 0 ++ (pr 1 3 1 ++ rest4 1 4 5 ls3)
def ls1 : List Item := pr 1 0 0 ++ (pr 1 0 1 ++ rest4 1 1 2 ls2)
def ls0 : List Item := pr 0 0 0 ++ (pr 0 0 1 ++ rest4 0 1 2 ls1)
theorem items_eq : items = .inl 0 :: .inl 1 :: .inl 2 :: .inl 3 :: ls0 := by decide

/-- What every lane starts from. -/
def seeds : sProp 𝕄 := bigSep Finset.univ fun l : Fin 4 => bigSep Finset.univ fun h : Fin 2 => seed c l h
/-- What every lane ends with. -/
def shuts : sProp 𝕄 := bigSep Finset.univ fun l : Fin 4 => bigSep Finset.univ fun h : Fin 2 => iprop(slots c l h ∗ shut c l h)

theorem ring_intro (r : Fin 2) :
    iprop((seed c (laneOf r 0) 0 ∗ seed c (laneOf r 0) 1) ∗ (seed c (laneOf r 1) 0 ∗ seed c (laneOf r 1) 1)
        ∗ buf (nbr c (laneOf r 0)) (laneOf r 0) ∗ buf (nbr c (laneOf r 1)) (laneOf r 1))
      ⊢ (iprop(sA c r 0 ∗ sA c r 1) : sProp 𝕄) := by
  unfold buf sA atS2 todo2
  iintro ⟨⟨R0, R1⟩, ⟨L0, L1⟩, ⟨BR0, BR1⟩, BL0, BL1⟩
  ihave R0 := (lane_intro c (laneOf r 0) 0) $$ [R0 BR0]
  · isplitl [R0]; · iexact R0
    iexact BR0
  ihave R1 := (lane_intro c (laneOf r 0) 1) $$ [R1 BR1]
  · isplitl [R1]; · iexact R1
    iexact BR1
  ihave L0 := (lane_intro c (laneOf r 1) 0) $$ [L0 BL0]
  · isplitl [L0]; · iexact L0
    iexact BL0
  ihave L1 := (lane_intro c (laneOf r 1) 1) $$ [L1 BL1]
  · isplitl [L1]; · iexact L1
    iexact BL1
  icases R0 with ⟨AR0, TR0⟩
  icases R1 with ⟨AR1, TR1⟩
  icases L0 with ⟨AL0, TL0⟩
  icases L1 with ⟨AL1, TL1⟩
  isplitl [AR0 AL0 TR0 TL0]
  · isplitl [AR0 AL0]
    · isplitl [AR0]; · iexact AR0
      iexact AL0
    isplitl [TR0]; · iexact TR0
    iexact TL0
  isplitl [AR1 AL1]
  · isplitl [AR1]; · iexact AR1
    iexact AL1
  isplitl [TR1]; · iexact TR1
  iexact TL1

theorem sums_down : iprop(sums P c 0 0 ∗ sums P c 0 1) ⊢ (iprop(raws P c 1 0 ∗ raws P c 1 1) : sProp 𝕄) := ring_down P c
theorem sums_fin (h : Fin 2) : sums P c 1 h ⊢ (ready2 P c 1 h 3 : sProp 𝕄) := ring_fin P c h

/-- The last phase, its semaphores closed. -/
theorem last_wp :
    iprop(env P K ∗ (s4 c 0 0 ∗ s4 c 0 1) ∗ owing c (rest4 0 4 5 []))
      ⊢ (WP c (phaseP c 0 3 4 5) fun _ => iprop((outM.view.loc (c : Thread nD τ) ↦{fullShare} (fin P : Out F))
          ∗ ((slots c 0 0 ∗ shut c 0 0) ∗ (slots c 0 1 ∗ shut c 0 1)) ∗ ((slots c 1 0 ∗ shut c 1 0) ∗ (slots c 1 1 ∗ shut c 1 1))
          ∗ owing c []) : sProp 𝕄) := by
  iintro ⟨#HE, H, Ho⟩
  iapply (wp_fupd frame (wpE (defs₀ (F := F)) 𝒱₀ (c : Thread nD τ) none) Set.univ)
  iapply (wp_last (phase_ag P K c 0 [] (by decide))) $$ [H Ho]
  · isplitr; · iexact HE
    isplitl [H]; · iexact H
    iexact Ho
  iintro ⟨⟨A0, A1⟩, Ho⟩
  imod (half_close P K c 0 0) $$ [A0] with ⟨Y0, Z0, Z1⟩
  · isplitr; · iexact HE
    iexact A0
  imod (half_close P K c 0 1) $$ [A1] with ⟨Y1, Z0', Z1'⟩
  · isplitr; · iexact HE
    iexact A1
  ihave Hr := (ring_all P c) $$ [Y0 Y1]
  · isplitl [Y0]; · iexact Y0
    iexact Y1
  imodintro
  isplitl [Hr]; · iexact Hr
  isplitl [Z0 Z0']
  · isplitl [Z0]; · iexact Z0
    iexact Z0'
  isplitl [Z1 Z1']
  · isplitl [Z1]; · iexact Z1
    iexact Z1'
  iexact Ho

theorem body_wp (x w : Vec F S1024x4096 .f32) (hP : P c = part x w) (f : Out F) :
    iprop(env P K ∗ opnds c x w ∗ (outM.view.loc (c : Thread nD τ) ↦{fullShare} f) ∗ seeds c ∗ barSeed c
        ∗ (buf c 0 ∗ buf c 1 ∗ buf c 2 ∗ buf c 3) ∗ owing c items)
      ⊢ (WP c bodyP fun _ => iprop(opnds c x w ∗ (outM.view.loc (c : Thread nD τ) ↦{fullShare} (fin P : Out F)) ∗ shuts c
          ∗ semVal (barCell c) 0 ∗ owing c []) : sProp 𝕄) := by
  unfold bodyP seeds shuts
  rw [items_eq, bigSep_fin4, bigSep_fin2, bigSep_fin2, bigSep_fin2, bigSep_fin2, bigSep_fin4, bigSep_fin2, bigSep_fin2, bigSep_fin2, bigSep_fin2]
  simp only [Prog.lift, Prog.bind_op, Prog.bind_ret, wp_deviceId]
  iintro ⟨#HE, Hx, Hf, ⟨D0, D1, D2, D3⟩, Hbar, Hbuf, Ho⟩
  ihave Hf := (chunks_intro c f) $$ Hf
  icases Hf with ⟨⟨C0, C0'⟩, C1, C2, C3⟩
  iapply (wp_block (gemm0_wp P c x w hP)) $$ [Hx C0 C0']
  · isplitl [Hx]; · iexact Hx
    isplitl [C0]; · iexact C0
    iexact C0'
  iintro ⟨Hx, R0⟩
  iapply (wp_block (bar_wp P K c ls0 (by decide))) $$ [Hbar Hbuf Ho]
  · isplitr; · iexact HE
    isplitl [Hbar]; · iexact Hbar
    isplitl [Hbuf]; · iexact Hbuf
    iexact Ho
  iintro ⟨⟨B0, B1, B2, B3⟩, Hv, Ho⟩
  ihave A := (ring_intro c 0) $$ [D0 D1 B0 B1]
  · isplitl [D0]; · iexact D0
    isplitl [D1]; · iexact D1
    isplitl [B0]; · iexact B0
    iexact B1
  ihave B := (ring_intro c 1) $$ [D2 D3 B2 B3]
  · isplitl [D2]; · iexact D2
    isplitl [D3]; · iexact D3
    isplitl [B2]; · iexact B2
    iexact B3
  iapply (wp_block (open_rs2 P K c 0 (rest4 0 1 2 ls1))) $$ [A R0 Ho]
  · isplitr; · iexact HE
    isplitl [A]; · iexact A
    isplitl [R0]; · iexact R0
    iexact Ho
  iintro ⟨A, Ho⟩
  iapply (wp_block (first_wp P K c ls1 x w hP (by decide))) $$ [Hx A C1 C2 C3 Ho]
  · isplitr; · iexact HE
    isplitl [Hx]; · iexact Hx
    isplitl [A]; · iexact A
    isplitl [C1]; · iexact C1
    isplitl [C2]; · iexact C2
    isplitl [C3]; · iexact C3
    iexact Ho
  iintro ⟨Hx, A, Hs, Ho⟩
  ihave Hr := (sums_down P c) $$ Hs
  unfold raws
  icases Hr with ⟨⟨R00, R10, R20, R30⟩, R01, R11, R21, R31⟩
  iapply (wp_block (open_rs2 P K c 1 (rest4 1 1 2 ls2))) $$ [B R00 R01 Ho]
  · isplitr; · iexact HE
    isplitl [B]; · iexact B
    isplitl [R00 R01]
    · isplitl [R00]; · iexact R00
      iexact R01
    iexact Ho
  iintro ⟨B, Ho⟩
  iapply (wp_block (phase_rs P K c 1 ls2 (by decide))) $$ [B R10 R11 R20 R21 R30 R31 Ho]
  · isplitr; · iexact HE
    isplitl [B]; · iexact B
    isplitl [R10 R11]
    · isplitl [R10]; · iexact R10
      iexact R11
    isplitl [R20 R21]
    · isplitl [R20]; · iexact R20
      iexact R21
    isplitl [R30 R31]
    · isplitl [R30]; · iexact R30
      iexact R31
    iexact Ho
  iintro ⟨B, ⟨S0, S1⟩, Ho⟩
  ihave S0 := (sums_fin P c 0) $$ S0
  ihave S1 := (sums_fin P c 1) $$ S1
  iapply (wp_block (open_ag2 P K c 1 (rest4 1 4 5 ls3))) $$ [B S0 S1 Ho]
  · isplitr; · iexact HE
    isplitl [B]; · iexact B
    isplitl [S0 S1]
    · isplitl [S0]; · iexact S0
      iexact S1
    iexact Ho
  iintro ⟨B, Ho⟩
  iapply (wp_block (phase_ag P K c 1 ls3 (by decide))) $$ [B Ho]
  · isplitr; · iexact HE
    isplitl [B]; · iexact B
    iexact Ho
  iintro ⟨⟨B0, B1⟩, Ho⟩
  imod (half_close P K c 1 0) $$ [B0] with ⟨Y0, Z2, Z3⟩
  · isplitr; · iexact HE
    iexact B0
  imod (half_close P K c 1 1) $$ [B1] with ⟨Y1, Z2', Z3'⟩
  · isplitr; · iexact HE
    iexact B1
  ihave Hr := (ring_up P c) $$ [Y0 Y1]
  · isplitl [Y0]; · iexact Y0
    iexact Y1
  iapply (wp_block (open_ag2 P K c 0 (rest4 0 4 5 []))) $$ [A Hr Ho]
  · isplitr; · iexact HE
    isplitl [A]; · iexact A
    isplitl [Hr]; · iexact Hr
    iexact Ho
  iintro ⟨A, Ho⟩
  iapply (wp_last (last_wp P K c)) $$ [A Ho]
  · isplitr; · iexact HE
    isplitl [A]; · iexact A
    iexact Ho
  iintro ⟨Hf, Z0, Z1, Ho⟩
  isplitl [Hx]; · iexact Hx
  isplitl [Hf]; · iexact Hf
  isplitl [Z0 Z1 Z2 Z3 Z2' Z3']
  · isplitl [Z0]; · iexact Z0
    isplitl [Z1]; · iexact Z1
    isplitl [Z2 Z2']
    · isplitl [Z2]; · iexact Z2
      iexact Z2'
    isplitl [Z3]; · iexact Z3
    iexact Z3'
  isplitl [Hv]; · iexact Hv
  iexact Ho

end Cert.KernelIdeal.Rings
-- ==== Proof.KI.Bufs.lean ====
/- The receive buffers: whole at the launch, slot by slot in the body. -/
module

public import proofs.«01_k».proof.Proof.KI.Body
public import Idealize.ShloMosaic.Lib.Ring

@[expose] public section

set_option maxRecDepth 20000

noncomputable section

namespace Cert.KernelIdeal.Rings

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A receive buffer, whole and slot by slot -/

/-- The elements of slot `(n, h)`, as the slot's view names them. -/
theorem slot_set (l : Fin 4) (n : Fin 3) (h : Fin 2) : (slotM l n h).view.set = (slotR l n h).set.map (bufM l).view.emb := by
  have e : (slotM l n h).view.set = ((bufM l).view.slice (slotR l n h)).set := View.set_reshape _ _
  rw [e, View.set_slice]

theorem mem_slotR (l : Fin 4) (n : Fin 3) (h : Fin 2) (i : (bufS (rows l)).Idx) :
    i ∈ (slotR l n h).set ↔ (i 0).val = n.val ∧ (i 1).val = h.val := by
  rw [Rect.mem_set_unit]
  constructor
  · intro H
    have h0 := H 0; have h1 := H 1
    change n.val ≤ (i 0).val ∧ (i 0).val < n.val + 1 at h0
    change h.val ≤ (i 1).val ∧ (i 1).val < h.val + 1 at h1
    omega
  · rintro ⟨h0, h1⟩ a
    match a with
    | 0 => change n.val ≤ (i 0).val ∧ (i 0).val < n.val + 1; omega
    | 1 => change h.val ≤ (i 1).val ∧ (i 1).val < h.val + 1; omega
    | 2 => exact ⟨Nat.zero_le _, by rw [show (![n.val, h.val, 0, 0] : Fin 4 → ℕ) 2 = 0 from rfl, Nat.zero_add]; exact (i 2).isLt⟩
    | 3 => exact ⟨Nat.zero_le _, by rw [show (![n.val, h.val, 0, 0] : Fin 4 → ℕ) 3 = 0 from rfl, Nat.zero_add]; exact (i 3).isLt⟩

theorem buf_whole (l : Fin 4) : (bufM l).view.set = Finset.univ := by
  match l with
  | 0 => exact View.set_whole _
  | 1 => exact View.set_whole _
  | 2 => exact View.set_whole _
  | 3 => exact View.set_whole _

/-- The slots' elements by half and step. -/
def slotSet (l : Fin 4) (p : Fin 2 × Fin 3) : Finset (bufM l).view.ty.Idx := (slotM l p.2 p.1).view.set

theorem slot_disjoint (l : Fin 4) (p p' : Fin 2 × Fin 3) (hp : p ≠ p') : Disjoint (slotSet l p) (slotSet l p') := by
  unfold slotSet
  rw [slot_set, slot_set, Finset.disjoint_map]
  refine Finset.disjoint_left.mpr fun i h₁ h₂ => hp ?_
  rw [mem_slotR] at h₁ h₂
  exact Prod.ext (Fin.ext (h₁.2.symm.trans h₂.2)) (Fin.ext (h₁.1.symm.trans h₂.1))

theorem slot_cover (l : Fin 4) : Finset.univ.biUnion (slotSet l) = Finset.univ := by
  ext j
  refine ⟨fun _ => Finset.mem_univ _, fun _ => ?_⟩
  have hj : j ∈ (bufM l).view.set := by rw [buf_whole]; exact Finset.mem_univ _
  obtain ⟨i, _, rfl⟩ := Finset.mem_map.mp hj
  refine Finset.mem_biUnion.mpr ⟨(⟨(i 1).val, (i 1).isLt⟩, ⟨(i 0).val, (i 0).isLt⟩), Finset.mem_univ _, ?_⟩
  unfold slotSet
  rw [slot_set]
  exact Finset.mem_map_of_mem _ ((mem_slotR l _ _ i).mpr ⟨rfl, rfl⟩)

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- Both halves of a receive buffer as one family of slots. -/
theorem buf_slots (c : Dev nD) (l : Fin 4) :
    (buf c l : sProp 𝕄) = bigSep Finset.univ fun p : Fin 2 × Fin 3 =>
      iprop(∃ f : Buf (Elt F) ((bufM l).view.loc (c : Thread nD τ)), (bufM l).view.loc (c : Thread nD τ) ↦[slotSet l p]{fullShare} f) := by
  rw [bigSep_univ_prod, bigSep_fin2, bigSep_fin3, bigSep_fin3]; rfl

theorem buf_split (c : Dev nD) (l : Fin 4) :
    iprop(∃ f : Buf (Elt F) ((bufM l).view.loc (c : Thread nD τ)), (bufM l).view.loc (c : Thread nD τ) ↦{fullShare} f) ⊢ (buf c l : sProp 𝕄) := by
  rw [buf_slots]
  iintro ⟨%f, H⟩
  iapply ((Entails.of_eq (Ring.pointsTo_blocks (Ix := Unit) (Name := ℕ) (U := UU) (Lvl := ℕ) (slotSet l) (slot_disjoint l) (slot_cover l) f)).trans
    (bigSep_mono fun p _ => show _ ⊢ iprop(∃ f : Buf (Elt F) ((bufM l).view.loc (c : Thread nD τ)),
        (bufM l).view.loc (c : Thread nD τ) ↦[slotSet l p]{fullShare} f) by iintro H; iexists f; iexact H))
  iexact H

theorem buf_join (c : Dev nD) (l : Fin 4) :
    (buf c l : sProp 𝕄) ⊢ iprop(∃ f : Buf (Elt F) ((bufM l).view.loc (c : Thread nD τ)), (bufM l).view.loc (c : Thread nD τ) ↦{fullShare} f) := by
  rw [buf_slots]
  obtain ⟨f₀⟩ : Nonempty (Buf (Elt F) ((bufM l).view.loc (c : Thread nD τ))) := inferInstance
  exact Ring.pointsTo_blocks_join_exists (Ix := Unit) (Name := ℕ) (U := UU) (Lvl := ℕ) (ℓ := (bufM l).view.loc (c : Thread nD τ)) (slotSet l)
    (slot_disjoint l) (slot_cover l) (q := fullShare) f₀

/-- The four receive buffers are the kernel's scoped buffers beside its windows. -/
theorem bufs_split (c : Dev nD) :
    (Pipeline.scopedRest (Ix := Unit) (Name := ℕ) (U := UU) (Lvl := ℕ) (Val := Elt F) spec0 c : sProp 𝕄) ⊢ iprop(buf c 0 ∗ buf c 1 ∗ buf c 2 ∗ buf c 3) := by
  rw [scopedRest0_eq]
  exact BIClass.sep_mono (buf_split c 0) (BIClass.sep_mono (buf_split c 1) (BIClass.sep_mono (buf_split c 2) (buf_split c 3)))
theorem bufs_join (c : Dev nD) :
    iprop(buf c 0 ∗ buf c 1 ∗ buf c 2 ∗ buf c 3) ⊢ (Pipeline.scopedRest (Ix := Unit) (Name := ℕ) (U := UU) (Lvl := ℕ) (Val := Elt F) spec0 c : sProp 𝕄) := by
  rw [scopedRest0_eq]
  exact BIClass.sep_mono (buf_join c 0) (BIClass.sep_mono (buf_join c 1) (BIClass.sep_mono (buf_join c 2) (buf_join c 3)))

end Cert.KernelIdeal.Rings
-- ==== Proof.KI.Deal.lean ====
/- The launch's ghost state: the cells' invariants, their duties' tokens dealt to the devices that pay them, and the
   credit each device's waits spend. -/
module

public import proofs.«01_k».proof.Proof.KI.Bufs

@[expose] public section

set_option maxRecDepth 20000

noncomputable section

namespace Cert.KernelIdeal.Rings

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens, named and read back -/

abbrev Slot6 : Type := Fin 4 × Fin 2 × Fin 6
/-- A cell's duties: the barrier's one per lane, an own-copy semaphore's six, a landing's one. -/
abbrev TokKey : Type := Fin 4 ⊕ (Slot6 ⊕ Slot6)

/-- The kernel's own semaphores. -/
abbrev osem : Slot7 → SemLoc sig := fun q => .dma (semOf q)

theorem semOf_rcv (l : Fin 4) (h : Fin 2) (n : Fin 6) : semOf (l, h, ⟨n.val, by omega⟩) = rcvSem l n h := dif_pos n.isLt

def keyOfRole : Role → Key
  | .snd l h => .inr (l, h, 6)
  | .rcv l n h => .inr (l, h, ⟨n.val, by omega⟩)
  | _ => .inl ()

theorem key_back (k : Key) : keyOfRole (role (locOf k)) = k := by
  rcases k with ⟨⟩ | ⟨l, h, k⟩
  · show keyOfRole (role (.reg barSem)) = _; rw [role_bar]; rfl
  · show keyOfRole (role (.dma (semOf (l, h, k)))) = _
    by_cases hk : k.val < 6
    · rw [show semOf (l, h, k) = rcvSem l ⟨k.val, hk⟩ h from dif_pos hk, role_rcv]; rfl
    · rw [show semOf (l, h, k) = sndSem l h from dif_neg hk, role_snd]
      have : k = 6 := Fin.ext (by have := k.isLt; show k.val = 6; omega)
      subst this; rfl

theorem locOf_injective : Function.Injective locOf :=
  Function.LeftInverse.injective (g := fun s => keyOfRole (role s)) key_back

theorem keyCell_injective : Function.Injective (keyCell : Dev nD × Key → GSem nD τ sig) := by
  rintro ⟨c, k⟩ ⟨c', k'⟩ h
  have h1 : c = c' := congrArg (fun g : GSem nD τ sig => g.1.1) h
  have h2 : k = k' := locOf_injective (congrArg Prod.snd h)
  rw [h1, h2]
def ringCells : Finset (GSem nD τ sig) := Finset.univ.map ⟨keyCell, keyCell_injective⟩

theorem ownSemFacts : Pipeline.OwnSemFacts cfg0.spec osem where
  isScoped := by decide
  inj q q' h := by
    have h' := locOf_injective (show locOf (.inr q) = locOf (.inr q') from h)
    exact Sum.inr.inj h'
  disj := by decide

/-- A duty's token: its cell, its round and its name. -/
def tokAt (c : Dev nD) : TokKey → GSem nD τ sig × ℕ × Fin 4
  | .inl l => (barCell c, 0, l)
  | .inr (.inl (l, h, n)) => (sndCell c l h, n.val, 0)
  | .inr (.inr (l, h, n)) => (rcvCell c l n h, 0, 0)
def tokOf (ck : Dev nD × TokKey) : GSem nD τ sig × ℕ × Fin 4 := tokAt ck.1 ck.2

def tokOfRole (x : GSem nD τ sig × ℕ × Fin 4) : TokKey := match role x.1.2 with
  | .snd l h => .inr (.inl (l, h, if hr : x.2.1 < 6 then ⟨x.2.1, hr⟩ else 0))
  | .rcv l n h => .inr (.inr (l, h, n))
  | _ => .inl x.2.2

theorem tok_back (c : Dev nD) (k : TokKey) : tokOfRole (tokAt c k) = k := by
  rcases k with l | ⟨l, h, n⟩ | ⟨l, h, n⟩
  · dsimp only [tokOfRole, tokAt]; rw [role_bar]
  · dsimp only [tokOfRole, tokAt]; rw [role_snd, dif_pos n.isLt]
  · dsimp only [tokOfRole, tokAt]; rw [role_rcv]

theorem tok_dev (c : Dev nD) (k : TokKey) : (tokAt c k).1.1.1 = c := by
  rcases k with l | ⟨l, h, n⟩ | ⟨l, h, n⟩ <;> rfl

theorem tokOf_injective : Function.Injective tokOf := by
  rintro ⟨c, k⟩ ⟨c', k'⟩ h
  have h1 : c = c' := by rw [← tok_dev c k, ← tok_dev c' k']; exact congrArg (fun x : GSem nD τ sig × ℕ × Fin 4 => x.1.1.1) h
  have h2 : k = k' := by rw [← tok_back c k, ← tok_back c' k']; exact congrArg tokOfRole h
  rw [h1, h2]
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-! ## Families over the lanes -/

theorem bigSep_sum (A B : Type) [Fintype A] [Fintype B] (Φ : A ⊕ B → sProp 𝕄) :
    bigSep Finset.univ Φ = iprop(bigSep Finset.univ (fun a => Φ (.inl a)) ∗ bigSep Finset.univ (fun b => Φ (.inr b))) := bigSep_univ_sum Φ

theorem bigSep_one (Φ : Unit → sProp 𝕄) : bigSep Finset.univ Φ = Φ () :=
  (bigSep_univ_eq_bigSepL [()] (by decide) (by decide) Φ)

/-- A family over lanes and halves. -/
def nest (Φ : Fin 4 → Fin 2 → sProp 𝕄) : sProp 𝕄 := bigSep Finset.univ fun l : Fin 4 => bigSep Finset.univ fun h : Fin 2 => Φ l h

theorem nest_sep (Φ Ψ : Fin 4 → Fin 2 → sProp 𝕄) : nest (fun l h => iprop(Φ l h ∗ Ψ l h)) = iprop(nest Φ ∗ nest Ψ) := by
  unfold nest
  rw [← bigSep_sep']
  exact bigSep_congr fun l _ => bigSep_sep' _ _ _

theorem bigSep_nest {n : ℕ} (Φ : Fin 4 × Fin 2 × Fin n → sProp 𝕄) :
    bigSep Finset.univ Φ = nest fun l h => bigSep Finset.univ fun k => Φ (l, h, k) := by
  unfold nest
  rw [bigSep_univ_prod]
  exact bigSep_congr fun l _ => bigSep_univ_prod _

theorem bigSep_under {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem nest_under {R : sProp 𝕄} [BI.Persistent R] {Φ Ψ : Fin 4 → Fin 2 → sProp 𝕄}
    (H : ∀ l h, iprop(R ∗ Φ l h) ⊢ Ψ l h) : iprop(R ∗ nest Φ) ⊢ nest Ψ := by
  unfold nest
  exact bigSep_under fun l => bigSep_under fun h => H l h

/-- The seven semaphores of a lane's half: the landings, and the own copies'. -/
theorem bigSep_seven (Φ : Fin 7 → sProp 𝕄) :
    bigSep Finset.univ Φ ⊢ iprop((bigSep Finset.univ fun n : Fin 6 => Φ ⟨n.val, by omega⟩) ∗ Φ 6) := by
  rw [bigSep_fin7, bigSep_fin6]
  show iprop(Φ 0 ∗ Φ 1 ∗ Φ 2 ∗ Φ 3 ∗ Φ 4 ∗ Φ 5 ∗ Φ 6) ⊢ iprop((Φ 0 ∗ Φ 1 ∗ Φ 2 ∗ Φ 3 ∗ Φ 4 ∗ Φ 5) ∗ Φ 6)
  iintro ⟨H0, H1, H2, H3, H4, H5, H6⟩
  isplitr [H6]
  · isplitl [H0]; · iexact H0
    isplitl [H1]; · iexact H1
    isplitl [H2]; · iexact H2
    isplitl [H3]; · iexact H3
    isplitl [H4]; · iexact H4
    iexact H5
  iexact H6

theorem bigSep_six (Φ : Fin 7 → sProp 𝕄) :
    bigSep Finset.univ Φ ⊢ bigSep Finset.univ fun n : Fin 6 => Φ ⟨n.val, by omega⟩ := (bigSep_seven Φ).trans sep_elim_left

/-! ## The ghost state, minted and dealt around -/

variable (P : Dev nD → Out F)

/-- The duty tokens of device `c`'s own cells. -/
def minted (c : Dev nD) : sProp 𝕄 := bigSep Finset.univ fun k : TokKey => dutyTok ER (tokOf (c, k)).1 (tokOf (c, k)).2.1 (tokOf (c, k)).2.2

/-- The places of device `c`'s own cells. -/
def places (c : Dev nD) : sProp 𝕄 := bigSep Finset.univ fun k : Key => atPos ER (keyCell (c, k)) 0 ∅ 0

/-- What the launch element deals device `c`. -/
def G (c : Dev nD) : sProp 𝕄 :=
  iprop((bigSep Finset.univ fun k : Key => roundState ER (sched P) (keyCell (c, k)) 0)
    ∗ (places c ∗ bigSep Finset.univ fun k : Key => reached ER (keyCell (c, k)) 0) ∗ minted c)

theorem fund_ring : BI.own (ER (initOf ringCells ringToks)) ⊢ (|==> bigSep Finset.univ (G P) : sProp 𝕄) := by
  have hX (Φ : GSem nD τ sig → sProp 𝕄) : bigSep ringCells Φ = bigSep Finset.univ fun c : Dev nD => bigSep Finset.univ fun k : Key => Φ (keyCell (c, k)) := by
    unfold ringCells; rw [bigSep_map, bigSep_univ_prod]; rfl
  have hT : bigSep ringToks (fun x => (dutyTok ER x.1 x.2.1 x.2.2 : sProp 𝕄)) = bigSep Finset.univ fun c : Dev nD => minted c := by
    unfold ringToks; rw [bigSep_map, bigSep_univ_prod]; rfl
  iintro HX
  imod (Rounds.fund ER (sched P) ringCells ringToks) $$ HX with ⟨Hst, Hr, Hat, Htok⟩
  imodintro
  ihave Hst' := (Entails.of_eq (hX fun g => roundState ER (sched P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']
    · unfold places; iexact Hat'
    iexact Hr'
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barSem] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Key => semVal (keyCell (c, k)) 0 : sProp 𝕄) := by
  rw [unscopedSems0_eq, bigSep_sum, bigSep_one]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k => iprop(∃ κ : ℕ, cellInv ER (sched P) κ (keyCell (c, k))))
          ∗ (places c ∗ bigSep Finset.univ fun k : Key => reached ER (keyCell (c, k)) 0) ∗ minted c) := by
  unfold G
  iintro ⟨Hos, Hus, Hst, Hat, Htok⟩
  ihave Hv := (sems0_eq (F := F) c) $$ [Hos Hus]
  · isplitl [Hos] <;> iassumption
  imod (show iprop((bigSep Finset.univ fun k : Key => semVal (keyCell (c, k)) 0) ∗ bigSep Finset.univ fun k : Key => roundState ER (sched P) (keyCell (c, k)) 0)
      ⊢ (|={Set.univ}=> bigSep Finset.univ fun k => iprop(∃ κ : ℕ, cellInv ER (sched P) κ (keyCell (c, k))) : sProp 𝕄) from by
        rw [← bigSep_sep']
        exact (bigSep_mono fun k _ => (Rounds.body_intro ER (sched P) (keyCell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device knows of all cells. -/
def records (K : Dev nD × Key → ℕ) : sProp 𝕄 :=
  iprop((bigSep Finset.univ fun ck : Dev nD × Key => cellInv ER (sched P) (K ck) (keyCell ck))
    ∗ bigSep Finset.univ fun ck : Dev nD × Key => reached ER (keyCell ck) 0)

instance records_persistent (K : Dev nD × Key → ℕ) : BI.Persistent (records P K) := by unfold records; infer_instance

theorem env_intro (K : Dev nD × Key → ℕ) : iprop(records P K ∗ levAts L lv) ⊢ env P K := by
  unfold records env
  iintro ⟨⟨HI, HR⟩, HL⟩
  isplitl [HI]; · iexact HI
  isplitl [HR]; · iexact HR
  iexact HL

/-- The tokens of the duties device `c` pays: a signal per lane, and each copy's two. -/
def payBar (c : Dev nD) : sProp 𝕄 := bigSep Finset.univ fun l : Fin 4 => dutyTok ER (barCell (nbr c l)) 0 l
def payToks (c : Dev nD) : sProp 𝕄 := nest fun l h => bigSep Finset.univ fun n : Fin 6 => toks c l n h

/-- Moving each lane's share one device on. -/
def around (Q : Type) (f : Q → Fin 4) : Dev nD × Q ≃ Dev nD × Q where
  toFun x := (nbr x.1 (f x.2), x.2)
  invFun x := (prv x.1 (f x.2), x.2)
  left_inv x := by dsimp only; rw [prv_nbr]
  right_inv x := by dsimp only; rw [nbr_prv]

theorem deal {Q : Type} [Fintype Q] (f : Q → Fin 4) (Φ : Dev nD → Q → sProp 𝕄) :
    (bigSep Finset.univ fun c => bigSep Finset.univ fun q => Φ c q)
      = bigSep Finset.univ fun c => bigSep Finset.univ fun q => Φ (nbr c (f q)) q := by
  rw [← bigSep_univ_prod (fun x : Dev nD × Q => Φ x.1 x.2), bigSep_univ_equiv (around Q f), bigSep_univ_prod]; rfl

theorem toks_around : (bigSep Finset.univ fun c : Dev nD => (minted c : sProp 𝕄)) ⊢ bigSep Finset.univ fun c : Dev nD => iprop(payBar c ∗ payToks c) := by
  have e (c : Dev nD) : (minted c : sProp 𝕄) = iprop((bigSep Finset.univ fun l : Fin 4 => dutyTok ER (barCell c) 0 l)
      ∗ (bigSep Finset.univ fun q : Slot6 => dutyTok ER (sndCell c q.1 q.2.1) q.2.2.val 0)
      ∗ bigSep Finset.univ fun q : Slot6 => dutyTok ER (rcvCell c q.1 q.2.2 q.2.1) 0 0) := by
    unfold minted; rw [bigSep_sum, bigSep_sum]; rfl
  have e' (c : Dev nD) : iprop((bigSep Finset.univ fun q : Slot6 => dutyTok ER (sndCell c q.1 q.2.1) q.2.2.val 0)
      ∗ bigSep Finset.univ fun q : Slot6 => dutyTok ER (rcvCell (nbr c q.1) q.1 q.2.2 q.2.1) 0 0) = (payToks c : sProp 𝕄) := by
    rw [← bigSep_sep', bigSep_nest]; rfl
  rw [bigSep_congr fun c _ => e c, bigSep_sep', bigSep_sep', deal (fun l => l) fun c l => dutyTok ER (barCell c) 0 l,
    deal (fun q : Slot6 => q.1) fun c q => dutyTok ER (rcvCell c q.1 q.2.2 q.2.1) 0 0, ← bigSep_sep', ← bigSep_sep']
  refine bigSep_mono fun c _ => ?_
  rw [e']; exact BI.Entails.refl _

/-- What stays with device `c`. -/
def linear (c : Dev nD) : sProp 𝕄 := iprop(places c ∗ payBar c ∗ payToks c)
def G' (c : Dev nD) : sProp 𝕄 := iprop(∃ K, records P K ∗ linear c)

theorem regroup :
    (bigSep Finset.univ fun c : Dev nD => iprop((bigSep Finset.univ fun k => iprop(∃ κ : ℕ, cellInv ER (sched P) κ (keyCell (c, k))))
          ∗ (places c ∗ bigSep Finset.univ fun k : Key => reached ER (keyCell (c, k)) 0) ∗ minted c) : sProp 𝕄)
      ⊢ bigSep Finset.univ (G' P) := by
  rw [bigSep_sep', bigSep_sep', ← bigSep_univ_prod (fun ck : Dev nD × Key => iprop(∃ κ : ℕ, cellInv ER (sched P) κ (keyCell ck))),
    bigSep_sep', ← bigSep_univ_prod (fun ck : Dev nD × Key => (reached ER (keyCell ck) 0 : sProp 𝕄))]
  iintro ⟨HI, ⟨Hat, #HR⟩, Htok⟩
  ihave HK := (BI.bigSep_exists_pi Finset.univ (fun (ck : Dev nD × Key) (κ : ℕ) => (cellInv ER (sched P) κ (keyCell ck) : sProp 𝕄))) $$ HI
  icases HK with ⟨%K, #HI⟩
  ihave Htk := (toks_around (F := F)) $$ Htok
  iapply (bigSep_under (R := records P K) (Φ := linear) fun c => show iprop(records P K ∗ linear c) ⊢ G' P c by
    unfold G'; iintro ⟨H1, H2⟩; iexists K; isplitl [H1]; · iexact H1
    iexact H2)
  isplitr
  · unfold records; isplitl; · iexact HI
    iexact HR
  · iapply ((Entails.of_eq (bigSep_sep' Finset.univ places (fun c : Dev nD => iprop(payBar c ∗ payToks c))).symm).trans
      (bigSep_mono fun c _ => show _ ⊢ linear c from Entails.of_eq (by unfold linear; rfl)))
    isplitl [Hat]; · iexact Hat
    iexact Htk

/-- Own and unscoped semaphores of every device at once become the cells. -/
theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  ((bigSep_mono fun c _ => core_alloc P c).trans (bigSep_fupd _ _)).trans (BI.fupd_mono (regroup P))

/-! ## The launch credit -/

theorem debt_total (g : GSem nD τ sig) : ∀ ls : List Item,
    (∑ d : Dev nD, debt d ls g ()) = (ls.map fun x => ∑ d : Dev nD, if g = itemCell d x then itemAmt x else 0).sum
  | [] => Finset.sum_eq_zero fun _ _ => rfl
  | x :: xs => by
    rw [List.map_cons, List.sum_cons, ← debt_total g xs, Nat.add_comm, ← Finset.sum_add_distrib]
    refine Finset.sum_congr rfl fun d _ => ?_
    show (debt d xs + tallyAt (itemCell d x) () (itemAmt x)) g () = _
    rw [Pi.add_apply, Finsupp.add_apply, tallyAt_apply]
    congr 1
    by_cases hg : g = itemCell d x
    · rw [if_pos ⟨hg, rfl⟩, if_pos hg]
    · rw [if_neg (fun h => hg h.1), if_neg hg]

theorem sum_nbr (c : Dev nD) (l : Fin 4) (a : ℕ) : (∑ d : Dev nD, if c = nbr d l then a else 0) = a := by
  rw [Finset.sum_eq_single (prv c l)]
  · rw [nbr_prv, if_pos rfl]
  · intro d _ hd; exact if_neg fun h => hd (by rw [h, prv_nbr])
  · intro h; exact absurd (Finset.mem_univ _) h

theorem bar_at (c d : Dev nD) (x : Item) : (barCell c = itemCell d x) ↔ ∃ l, x = .inl l ∧ c = nbr d l := by
  rcases x with l | ⟨l, n, h⟩
  · refine ⟨fun e => ⟨l, rfl, congrArg (fun g : GSem nD τ sig => g.1.1) e⟩, ?_⟩
    rintro ⟨l', e, h⟩; cases e; rw [h]; rfl
  · refine ⟨fun e => ?_, fun ⟨_, e, _⟩ => by cases e⟩
    have := congrArg Prod.snd e; cases this

theorem rcv_at (c d : Dev nD) (l : Fin 4) (n : Fin 6) (h : Fin 2) (x : Item) :
    (rcvCell c l n h = itemCell d x) ↔ x = .inr (l, n, h) ∧ c = nbr d l := by
  rcases x with l' | ⟨l', n', h'⟩
  · refine ⟨fun e => ?_, fun ⟨e, _⟩ => by cases e⟩
    have := congrArg Prod.snd e; cases this
  · constructor
    · intro e
      have e1 : role (.dma (rcvSem l n h)) = role (.dma (rcvSem l' n' h')) := congrArg (fun g : GSem nD τ sig => role g.2) e
      rw [role_rcv, role_rcv] at e1
      have e2 : c = nbr d l' := congrArg (fun g : GSem nD τ sig => g.1.1) e
      cases e1; exact ⟨rfl, e2⟩
    · rintro ⟨e1, e2⟩; cases e1; rw [e2]; rfl

theorem owed_bar (c : Dev nD) : (∑ d : Dev nD, debt d items (barCell c) ()) = 4 := by
  rw [debt_total, List.map_congr_left (g := fun x : Item => match x with | .inl _ => 1 | .inr _ => 0) fun x _ => ?_]
  · decide
  · rcases x with l | q
    · rw [← sum_nbr c l (1 : ℕ)]
      refine Finset.sum_congr rfl fun d _ => if_congr ((bar_at c d _).trans ⟨?_, fun e => ⟨l, rfl, e⟩⟩) rfl rfl
      rintro ⟨l', e, h⟩; cases e; exact h
    · exact Finset.sum_eq_zero fun d _ => if_neg fun e => by obtain ⟨_, e, _⟩ := (bar_at c d _).mp e; cases e

theorem sum_count (a : ℕ) (y : Item) : ∀ ls : List Item,
    (ls.map fun x => if x = y then a else 0).sum = (ls.map fun x => if x = y then 1 else 0).sum * a
  | [] => (Nat.zero_mul a).symm
  | x :: xs => by
    rw [List.map_cons, List.sum_cons, List.map_cons, List.sum_cons, sum_count a y xs, Nat.add_mul]
    congr 1
    by_cases hx : x = y
    · rw [if_pos hx, if_pos hx, Nat.one_mul]
    · rw [if_neg hx, if_neg hx, Nat.zero_mul]

theorem items_once (l : Fin 4) (n : Fin 6) (h : Fin 2) : (items.map fun x => if x = .inr (l, n, h) then 1 else 0).sum = 1 := by
  revert l n h; decide +kernel

theorem owed_rcv (c : Dev nD) (l : Fin 4) (n : Fin 6) (h : Fin 2) : (∑ d : Dev nD, debt d items (rcvCell c l n h) ()) = NL l := by
  rw [debt_total, List.map_congr_left (g := fun x : Item => if x = .inr (l, n, h) then NL l else 0) fun x _ => ?_,
    sum_count, items_once, Nat.one_mul]
  by_cases hx : x = .inr (l, n, h)
  · subst hx
    rw [if_pos rfl]
    refine Eq.trans ?_ (sum_nbr c l (NL l))
    exact Finset.sum_congr rfl fun d _ => if_congr ((rcv_at c d l n h _).trans (and_iff_right rfl)) rfl rfl
  · rw [if_neg hx]
    exact Finset.sum_eq_zero fun d _ => if_neg fun e => hx ((rcv_at c d l n h _).mp e).1

/-- What is owed to device `c` at its cells, as the tokens its waits spend. -/
def credits (c : Dev nD) : sProp 𝕄 :=
  iprop(cred (tallyAt (barCell c) () 4) ∗ nest fun l h => bigSep Finset.univ fun n : Fin 6 => cred (tallyAt (rcvCell c l n h) () (NL l)))

abbrev O₀ (c : Dev nD) : CellTallies nD τ sig Unit := debt c items

theorem launch_at (g : GSem nD τ sig) (a : ℕ) (h : (∑ d : Dev nD, debt d items g ()) = a) :
    tallyOn g (launchCredit (Pipeline.owing O₀) 0 g) = (tallyAt g () a : CellTallies nD τ sig Unit) := by
  unfold tallyAt; refine congrArg _ (Finsupp.ext fun u => ?_); cases u
  rw [Pipeline.launchCredit_owing, Finsupp.single_eq_same]; exact h

theorem creds (c : Dev nD) : (Pipeline.launchCred O₀ c : sProp 𝕄) ⊢ credits c := by
  unfold Pipeline.launchCred credits
  refine (bigSep_subset (Finset.subset_univ (Finset.univ.map ⟨locOf, locOf_injective⟩))).trans ?_
  rw [bigSep_map, bigSep_sum, bigSep_one, bigSep_nest]
  refine BIClass.sep_mono (Entails.of_eq (congrArg cred (launch_at (barCell c) 4 (owed_bar c)))) ?_
  unfold nest
  refine bigSep_mono fun l _ => bigSep_mono fun h _ => ?_
  refine (bigSep_six _).trans (bigSep_mono fun n _ => ?_)
  have e : locOf (.inr (l, h, ⟨n.val, by omega⟩)) = .dma (rcvSem l n h) := congrArg SemLoc.dma (semOf_rcv l h n)
  show (cred (tallyOn ((c : Thread nD τ), locOf (.inr (l, h, ⟨n.val, _⟩))) (launchCredit (Pipeline.owing O₀) 0
    ((c : Thread nD τ), locOf (.inr (l, h, ⟨n.val, _⟩))))) : sProp 𝕄) ⊢ cred (tallyAt (rcvCell c l n h) () (NL l))
  rw [e, ← launch_at (rcvCell c l n h) (NL l) (owed_rcv c l n h)]

/-! ## What the body starts from -/

theorem seed_intro (K : Dev nD × Key → ℕ) (c : Dev nD) (l : Fin 4) (h : Fin 2) :
    iprop(env P K ∗ (bigSep Finset.univ fun k : Fin 7 => atPos ER (keyCell (c, .inr (l, h, k))) 0 ∅ 0)
        ∗ (bigSep Finset.univ fun n : Fin 6 => toks c l n h) ∗ bigSep Finset.univ fun n : Fin 6 => cred (tallyAt (rcvCell c l n h) () (NL l)))
      ⊢ (seed c l h : sProp 𝕄) := by
  have hr : (bigSep Finset.univ fun n : Fin 6 => atPos ER (keyCell (c, .inr (l, h, ⟨n.val, by omega⟩))) 0 ∅ 0)
      ⊢ (bigSep Finset.univ fun n : Fin 6 => atPos ER (rcvCell c l n h) 0 ∅ 0 : sProp 𝕄) :=
    bigSep_mono fun n _ => Entails.of_eq (congrArg (fun g => (atPos ER g 0 ∅ 0 : sProp 𝕄)) (key_rcv c l n h))
  unfold seed atS wt
  rw [bigSep_sep', bigSep_sep']
  iintro ⟨#HE, Ha, Ht, Hc⟩
  ihave Ha := (bigSep_seven _) $$ Ha
  icases Ha with ⟨Hr, Hs⟩
  isplitl [Hs]
  · isplitl [Hs]; · iexact Hs
    iapply (reached_snd P K c l h); iexact HE
  isplitl [Ht]; · iexact Ht
  isplitl [Hc]; · iexact Hc
  iapply hr
  iexact Hr

theorem start_all (K : Dev nD × Key → ℕ) (c : Dev nD) :
    iprop(env P K ∗ linear c ∗ credits c) ⊢ (iprop(seeds c ∗ barSeed c) : sProp 𝕄) := by
  unfold linear places payBar payToks credits barSeed
  rw [bigSep_sum, bigSep_one, bigSep_nest, bigSep_fin4]
  iintro ⟨#HE, ⟨⟨Hb, Ha⟩, HB, Ht⟩, Hc, Hn⟩
  isplitl [Ha Ht Hn]
  · iapply ((nest_under (R := env P K) fun l h => seed_intro P K c l h).trans (Entails.of_eq (by rfl)))
    isplitr; · iexact HE
    rw [nest_sep, nest_sep]
    isplitl [Ha]; · iexact Ha
    isplitl [Ht]; · iexact Ht
    iexact Hn
  isplitl [HB]; · iexact HB
  isplitl [Hc]; · iexact Hc
  iexact Hb

/-- What the body ends with: the receive buffers, and the kernel's own semaphores at zero. -/
theorem shuts_all (c : Dev nD) :
    (shuts c : sProp 𝕄) ⊢ iprop((buf c 0 ∗ buf c 1 ∗ buf c 2 ∗ buf c 3)
      ∗ Pipeline.ownSems0 (Ix := Unit) (Name := ℕ) (U := UU) (Lvl := ℕ) (Val := Elt F) (τ := τ) osem c) := by
  have e : (shuts c : sProp 𝕄) = iprop(nest (fun l h => slots c l h) ∗ nest fun l h => shut c l h) := by rw [← nest_sep]; rfl
  rw [e]
  refine BIClass.sep_mono (Entails.of_eq ?_) (Entails.of_eq ?_)
  · unfold nest buf; rw [bigSep_fin4, bigSep_fin2, bigSep_fin2, bigSep_fin2, bigSep_fin2]
  · unfold Pipeline.ownSems0 shut; rw [bigSep_nest]

end Cert.KernelIdeal.Rings
-- ==== Proof.KI.Run.lean ====
/- The run: the launch, its body, what every final state holds. -/
module

public import proofs.«01_k».proof.Proof.KI.Deal
public import proofs.«01_k».proof.Proof.Gen.KernelIdeal.Points
public import Idealize.ShloMosaic.Lib.Pipeline.CollectiveSegs

@[expose] public section

set_option maxRecDepth 20000

noncomputable section

namespace Cert.KernelIdeal.Rings

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## What each device is handed -/

/-- The two staged operands. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- Each device's own product. -/
def own (c : Dev nD) : Out F := part (xstg m c) (wstg m c)

abbrev opened (c : Dev nD) : sProp 𝕄 := iprop(buf c 0 ∗ buf c 1 ∗ buf c 2 ∗ buf c 3)

def start (c : Dev nD) : sProp 𝕄 := iprop(G' (own m) c ∗ credits c ∗ levAts L lv)
def Φ₀ (c : Dev nD) : sProp 𝕄 := iprop(start m c ∗ opened c)
def Φ₁ (c : Dev nD) : sProp 𝕄 :=
  iprop(opened c ∗ Pipeline.ownSems0 (Ix := Unit) (Name := ℕ) (U := UU) (Lvl := ℕ) (Val := Elt F) (τ := τ) osem c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => (fin (own m) : Out F)
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_intro (c : Dev nD) (b : Ref sig .tc) (X : b.ty.Contents (Elt F)) :
    ((((c : Thread nD τ).loc b) ↦{fullShare} (X : Buf (Elt F) ((c : Thread nD τ).loc b))) : sProp 𝕄) ⊢ stg c b X := by
  iintro H
  iexists _; isplitr; · (ipureintro; rfl)
  iexact H

theorem fetch_x : (cfg0.win (0 : Fin 3)).fetch t0_0 = true := fetch0_0 _
theorem fetch_w : (cfg0.win (1 : Fin 3)).fetch t0_0 = true := fetch0_1 _

def pre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def post (c : Dev nD) : sProp 𝕄 :=
  iprop(Φ₁ c ∗ (dats m ρ 0 c).owesAt () t0_0.succ ∗ stg c cc0_stg0_0 (xstg m c) ∗ stg c cc0_stg1_0 (wstg m c)
    ∗ stg c cc0_stg2_0 (fin (own m) : Out F))

theorem owing_start (c : Dev nD) : (dats m ρ 0 c).owesAt () t0_0.castSucc ⊢ (owing c items : sProp 𝕄) := by
  unfold Dat.owesAt Pipeline.owesWithin owing
  iintro ⟨%W, -, H⟩
  iexists W; iexact H

theorem owing_end (c : Dev nD) : (owing c [] : sProp 𝕄) ⊢ (dats m ρ 0 c).owesAt () t0_0.succ := by
  unfold Dat.owesAt Pipeline.owesWithin owing
  iintro ⟨%W, H⟩
  iexists W
  isplitr; · ipureintro; exact fun _ _ => Or.inl trivial
  iexact H

/-- The body from what the pipeline hands it. -/
theorem body_pre (c : Dev nD) (K : Dev nD × Key → ℕ) (f : Out F) :
    iprop((records (own m) K ∗ linear c) ∗ credits c ∗ levAts L lv ∗ opened c ∗ owing c items
        ∗ ((c : Thread nD τ).loc cc0_stg0_0 ↦{fullShare} xstg m c) ∗ ((c : Thread nD τ).loc cc0_stg1_0 ↦{fullShare} wstg m c)
        ∗ ((c : Thread nD τ).loc cc0_stg2_0 ↦{fullShare} f))
      ⊢ (WP c bodyP fun _ => iprop(opnds c (xstg m c) (wstg m c) ∗ (outM.view.loc (c : Thread nD τ) ↦{fullShare} (fin (own m) : Out F)) ∗ shuts c
          ∗ semVal (barCell c) 0 ∗ owing c []) : sProp 𝕄) := by
  iintro ⟨⟨HR, Hlin⟩, Hcr, Hlev, Hbuf, Ho, Hx, Hw, Hout⟩
  ihave HE := (env_intro (own m) K) $$ [HR Hlev]
  · isplitl [HR] <;> iassumption
  icases HE with #HE
  ihave HS := (start_all (own m) K c) $$ [Hlin Hcr]
  · isplitr; · iexact HE
    isplitl [Hlin] <;> iassumption
  icases HS with ⟨Hseeds, Hbar⟩
  iapply (body_wp (own m) K c (xstg m c) (wstg m c) rfl f)
  isplitr; · iexact HE
  isplitl [Hx Hw]
  · unfold opnds
    isplitl [Hx]; · iexact Hx
    iexact Hw
  isplitl [Hout]; · iexact Hout
  isplitl [Hseeds]; · iexact Hseeds
  isplitl [Hbar]; · iexact Hbar
  isplitl [Hbuf]; · iexact Hbuf
  iexact Ho

theorem body_post (c : Dev nD) :
    iprop(opnds c (xstg m c) (wstg m c) ∗ (outM.view.loc (c : Thread nD τ) ↦{fullShare} (fin (own m) : Out F)) ∗ shuts c
        ∗ semVal (barCell c) 0 ∗ owing c []) ⊢ (post m ρ c : sProp 𝕄) := by
  unfold post Φ₁ opnds
  iintro ⟨⟨Hx, Hw⟩, Hout, Hsh, Hz, Ho⟩
  ihave Hs := (shuts_all c) $$ Hsh
  icases Hs with ⟨Hbuf, Hsem⟩
  isplitl [Hbuf Hsem Hz]
  · isplitl [Hbuf]; · iexact Hbuf
    isplitl [Hsem] <;> iassumption
  isplitl [Ho]; · iapply (owing_end m ρ c) $$ Ho
  isplitl [Hx]; · iapply (stg_intro c cc0_stg0_0 (xstg m c)) $$ Hx
  isplitl [Hw]; · iapply (stg_intro c cc0_stg1_0 (wstg m c)) $$ Hw
  iapply (stg_intro c cc0_stg2_0 (fin (own m) : Out F)) $$ Hout

theorem body_run (c : Dev nD) : pre m ρ c ⊢ (WP c bodyP fun _ => post m ρ c : sProp 𝕄) := by
  unfold pre Φ₀ start G'
  iintro ⟨⟨⟨⟨%K, HG⟩, Hcr, Hlev⟩, Hbuf⟩, Ho, ⟨%d0, %g0, %hg0, Hx⟩, ⟨%d1, %g1, %hg1, Hw⟩, ⟨%d2, %g2, %hg2, Hout⟩⟩
  have hx : g0 = xstg m c := by rw [hg0]; unfold Dat.before; rw [if_pos fetch_x]; rfl
  have hw : g1 = wstg m c := by rw [hg1]; unfold Dat.before; rw [if_pos fetch_w]; rfl
  subst hx; subst hw
  ihave Ho := (owing_start m ρ c) $$ Ho
  iapply (wp_mono _ _ _ fun _ => body_post m ρ c)
  iapply (body_pre m c K g2)
  isplitl [HG]; · iexact HG
  isplitl [Hcr]; · iexact Hcr
  isplitl [Hlev]; · iexact Hlev
  isplitl [Hbuf]; · iexact Hbuf
  isplitl [Ho]; · iexact Ho
  isplitl [Hx]; · iexact Hx
  isplitl [Hw]; · iexact Hw
  iexact Hout

theorem body_obligation (c : Dev nD) : BodyObligation (dats (F := F) m ρ 0 c) (defs₀ (F := F)) 𝒱₀ () Set.univ := fun t => by
  rw [fin_N0 t]
  rw [bigSep_W0, bigSep_W0]
  simp only [owns_stage]
  exact body_run m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (own m) c)
      ⊢ |={Set.univ}=> iprop(start m c ∗ emp) := by
  unfold start
  iintro ⟨-, Hlev, Hcr, -, HG⟩
  ihave Hc := (creds (F := F) c) $$ Hcr
  imodintro
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (bufs_split c) $$ Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_eq]
  unfold Φ₁
  iintro ⟨Hb, HzO, HzB⟩
  isplitl [HzB]; · iexact HzB
  isplitl [HzO]; · iexact HzO
  iapply (bufs_join c) $$ Hb

theorem lv_stage (c : Dev nD) (w : Fin cfg0.W) (s : Fin (cfg0.win w).nbuf) :
    lv ((c : Thread nD τ), SemLoc.dma ((cfg0.win w).sem s)) () = 0 := by
  fin_cases w <;> fin_cases s <;> rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ items (by rw [lv_stage]; exact above_zero _)
    · exact mayWait c _ [] (by rw [lv_stage]; exact above_zero _)

/-- Window `w`'s array when the run is over. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every run ends, with each device's arrays as computed and every counter at
    zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (own m)) (G' := G' (own m)) (u₀ := u₀)
    (hu₀ := by
      unfold u₀
      iintro Hu
      ihave H := (ownU_pair _ _) $$ Hu
      icases H with ⟨HP, HX⟩
      imod (fund_ring (own m)) $$ HX with HG
      imodintro
      isplitl [HP] <;> iassumption)
    (hglob := glob (own m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem final_x (c : Dev nD) : finalA m ρ c (0 : Fin 3) = m ((c : Thread nD τ).loc main_arg0) := (dats (F := F) m ρ 0 c).arrAt_in (0 : Fin 3) rfl _
theorem final_w (c : Dev nD) : finalA m ρ c (1 : Fin 3) = m ((c : Thread nD τ).loc main_arg1) := (dats (F := F) m ρ 0 c).arrAt_in (1 : Fin 3) rfl _

theorem final_out (c : Dev nD) : (win0_2.blk (0 : Fin 1)).view.read (Elt F) (finalA m ρ c (2 : Fin 3)) = (fin (own m) : Out F) := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from flush0_2 _, if_pos rfl]
  exact View.read_write_univ _ _

theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c (0 : Fin 3)).trans (final_x m ρ c), (h.1 c (1 : Fin 3)).trans (final_w m ρ c)⟩, h.2⟩)
    (run_main (F := F) m ρ)

end Cert.KernelIdeal.Rings
-- ==== Proof.KI.Sum.lean ====
/- The kernel's result over the extended reals: the sum of every device's product, and so one product over the whole
   contracted axis. -/
module

public import proofs.«01_k».proof.Proof.KI.Run
public import proofs.«01_k».proof.Proof.Gen.ReferenceIdeal.Read
public import Idealize.ShloMosaic.Lib.MatmulPlain
public import Idealize.ShloMosaic.Lib.Layout
public import Mathlib.Logic.Equiv.Fin.Basic

@[expose] public section

noncomputable section

namespace Cert.KernelIdeal.Rings

open Cert.KernelIdeal Cert.KernelIdeal.Gen
open Idealize.ShloMosaic Idealize.ShloMosaic.TcCoe Idealize.ShloMosaic.ValueIdx Idealize.SL.Sem
open scoped BigOperators

/-! ## The two rings reach every device once -/

/-- The device `k` steps back along a lane. -/
def back (l : Fin 4) (c : Dev nD) : Fin 4 → Dev nD
  | 0 => c
  | 1 => prv c l
  | 2 => prv (prv c l) l
  | 3 => prv (prv (prv c l) l) l

theorem acc_sum (b : Dev nD → Out Ideal) (l : Fin 4) (c : Dev nD) (i : S1024x1024.Idx) :
    acc b l 3 c i = (∑ k : Fin 4, (b (back l c k) i : EReal)) := by
  rw [Fin.sum_univ_four, add_assoc, add_assoc]; rfl

/-- The device `k` steps back along the second ring and `j` steps back along the first. -/
def reach (s : Fin 2) (c : Dev nD) (q : Fin 4 × Fin 4) : Dev nD :=
  back ⟨s.val, by omega⟩ (back ⟨s.val + 2, by omega⟩ c q.1) q.2

theorem reach_bij : ∀ (s : Fin 2) (c : Dev nD), Function.Bijective (reach s c) := by decide +kernel

theorem cont_sum (P : Dev nD → Out Ideal) (s : Fin 2) (c : Dev nD) (i : S1024x1024.Idx) :
    cont P ⟨s.val + 2, by omega⟩ 3 c i = (∑ d : Dev nD, (P d i : EReal)) := by
  have e : base P ⟨s.val + 2, by omega⟩ = acc P ⟨s.val, by omega⟩ 3 := by revert s; intro s; fin_cases s <;> rfl
  unfold cont
  rw [acc_sum, e, Finset.sum_congr rfl fun k _ => acc_sum P ⟨s.val, by omega⟩ _ i,
    ← (reach_bij s c).sum_comp fun d => (P d i : EReal), Fintype.sum_prod_type]
  rfl

theorem fin_sum (P : Dev nD → Out Ideal) (i : S1024x1024.Idx) : (fin P : Out Ideal) i = (∑ d : Dev nD, (P d i : EReal)) := by
  unfold fin laneAt
  by_cases h : (i 0).val < 512
  · rw [if_pos h]; exact cont_sum P 0 _ i
  · rw [if_neg h]; exact cont_sum P 1 _ i

/-! ## One device's product -/

theorem part_sum (x w : Vec Ideal S1024x4096 .f32) (i : S1024x1024.Idx) :
    part x w i = (∑ k : Fin 4096, (x (ix2 (i 0) k) * w (ix2 (i 1) k) : EReal)) := by
  unfold part gemmV inChunk
  rw [shapeCast_self, shapeCast_self]
  refine (Ideal.matmul_transposedRhs_apply (M := 128) (K := 4096) (N := 1024) none _ _ _ _ _).trans ?_
  refine (congrArg (· + _) Ideal.ofBits_zero_f32).trans ((zero_add _).trans (Finset.sum_congr rfl fun k _ => ?_))
  have ex : (dyR (chunkOf i)).emb (ix2 ⟨(i 0).val % 128, Nat.mod_lt _ (by decide)⟩ k) = ix2 (i 0) k := by
    funext a; apply Fin.ext
    match a with
    | ⟨0, _⟩ => show 128 * ((i 0).val / 128) + 1 * ((i 0).val % 128) = (i 0).val; omega
    | ⟨1, _⟩ => show 0 + 1 * k.val = k.val; omega
  have ew : wR.emb (ix2 (i 1) k) = ix2 (i 1) k := by
    funext a; apply Fin.ext
    match a with
    | ⟨0, _⟩ => show 0 + 1 * (i 1).val = (i 1).val; omega
    | ⟨1, _⟩ => show 0 + 1 * k.val = k.val; omega
  exact congrArg₂ (fun p q : EReal => p * q) (congrArg x ex) (congrArg w ew)

/-! ## The staged operands are the arguments -/

variable {F : FTy → Type} [FloatOps F] (m : (ℓ : Loc nD τ sig) → Buf (Elt F) ℓ) (ρ : Dev nD → PrngReg)

theorem read_x (c : Dev nD) (f : Buf (Elt F) ((c : Thread nD τ).loc main_arg0)) : (win0_0.blk (0 : Fin 1)).view.read (Elt F) f = f := by
  funext i
  refine congrArg f (funext fun a => Fin.ext ?_)
  match a with
  | ⟨0, _⟩ => show 0 * 1024 + 1 * (i 0).val = (i 0).val; omega
  | ⟨1, _⟩ => show 0 * 4096 + 1 * (i 1).val = (i 1).val; omega

theorem read_w (c : Dev nD) (f : Buf (Elt F) ((c : Thread nD τ).loc main_arg1)) : (win0_1.blk (0 : Fin 1)).view.read (Elt F) f = f := by
  funext i
  refine congrArg f (funext fun a => Fin.ext ?_)
  match a with
  | ⟨0, _⟩ => show 0 * 1024 + 1 * (i 0).val = (i 0).val; omega
  | ⟨1, _⟩ => show 0 * 4096 + 1 * (i 1).val = (i 1).val; omega

theorem read_out (c : Dev nD) (f : Buf (Elt F) ((c : Thread nD τ).loc main_v1)) : (win0_2.blk (0 : Fin 1)).view.read (Elt F) f = f := by
  funext i
  refine congrArg f (funext fun a => Fin.ext ?_)
  match a with
  | ⟨0, _⟩ => show 0 * 1024 + 1 * (i 0).val = (i 0).val; omega
  | ⟨1, _⟩ => show 0 * 1024 + 1 * (i 1).val = (i 1).val; omega

/-- Every device's result holds the reduced sum. -/
theorem run_value : θ_run defs (onTc (τ := τ) (main (F := F))) ⟨m, fun _ => 0, ρ⟩ (fun r => ∀ c : Dev nD,
      r.2.mem ((c.tc : Thread nD τ).loc main_v1) = (fin (own m) : Out F)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c (2 : Fin 3)).trans ((read_out c _).symm.trans (final_out m ρ c)),
    (h.1 c (0 : Fin 3)).trans (final_x m ρ c), (h.1 c (1 : Fin 3)).trans (final_w m ρ c)⟩) (run_main (F := F) m ρ)

/-! ## The whole product -/

/-- The contracted axis of the whole arrays, device by device. -/
theorem sum_axis (f : Fin 65536 → EReal) : (∑ d : Fin 16, ∑ k : Fin 4096, f ⟨d.val * 4096 + k.val, by omega⟩) = ∑ q : Fin 65536, f q := by
  rw [← (finProdFinEquiv (m := 16) (n := 4096)).sum_comp f, Fintype.sum_prod_type]
  refine Finset.sum_congr rfl fun d _ => Finset.sum_congr rfl fun k _ => congrArg f (Fin.ext ?_)
  show d.val * 4096 + k.val = k.val + 4096 * d.val
  omega

/-- From blocks of the reference's arguments, the reduced sum is the reference's product. -/
theorem value (m : (ℓ : Loc nD τ sig) → Buf (Elt Ideal) ℓ) (x w : (⟨2, ![1024, 65536]⟩ : Shape).Idx → EReal)
    (hx : ∀ c : Dev nD, m ((c.tc : Thread nD τ).loc main_arg0) = Layout.block ⟨2, ![1024, 4096]⟩ ⟨2, ![1024, 65536]⟩ 1 16 c x)
    (hw : ∀ c : Dev nD, m ((c.tc : Thread nD τ).loc main_arg1) = Layout.block ⟨2, ![1024, 4096]⟩ ⟨2, ![1024, 65536]⟩ 1 16 c w) :
    (fin (own m) : Out Ideal) = Cert.ReferenceIdeal.Read.val_main_v1 (F := Ideal) x w := by
  funext i
  rw [fin_sum, Cert.ReferenceIdeal.Read.val_main_v1_apply,
    ← sum_axis fun q => x (Cert.ReferenceIdeal.Read.lidx_main_v1 i q) * Cert.ReferenceIdeal.Read.val_main_v0 (F := Ideal) w (Cert.ReferenceIdeal.Read.ridx_main_v1 i q)]
  refine Finset.sum_congr rfl fun d _ => ?_
  have ex : xstg m d = Layout.block ⟨2, ![1024, 4096]⟩ ⟨2, ![1024, 65536]⟩ 1 16 d x := (read_x d _).trans (hx d)
  have ew : wstg m d = Layout.block ⟨2, ![1024, 4096]⟩ ⟨2, ![1024, 65536]⟩ 1 16 d w := (read_w d _).trans (hw d)
  unfold own
  rw [ex, ew, part_sum]
  refine Finset.sum_congr rfl fun k _ => ?_
  rw [Cert.ReferenceIdeal.Read.val_main_v0_apply]
  refine congrArg₂ (fun p q : EReal => p * q) (congrArg x (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

end Cert.KernelIdeal.Rings
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.K.Run
public import proofs.«01_k».proof.Proof.KI.Run
public import proofs.«01_k».proof.Proof.KI.Sum
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The program as it is compiled: every run ends, the arguments kept, every counter at zero. -/
theorem frame_kernel : Cert.quiescent_Kernel (hKernel := Cert.Kernel.Gen.facts) :=
  fun m ρ _ => Cert.Kernel.Rings.run_args (F := Bits) m ρ

/-- The same of the program read over the extended reals. -/
theorem frame_ideal : Cert.quiescent_KernelIdeal (hKernelIdeal := Cert.KernelIdeal.Gen.facts) :=
  fun m ρ _ => Cert.KernelIdeal.Rings.run_args (F := Ideal) m ρ

/-- The same of the reference. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with the reference's product. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, (θ_run Cert.KernelIdeal.defs _ _).mono (fun r h c => ⟨(h c).1.trans
      (Cert.KernelIdeal.Rings.value m _ _ (fun c => (hargs c).1) fun c => (hargs c).2), (h c).2⟩)
    (Cert.KernelIdeal.Rings.run_value (F := Ideal) m g), ?_⟩
  exact (θ_run Cert.ReferenceIdeal.defs _ _).mono
    (fun r h => ⟨(h 0).1.trans (Cert.ReferenceIdeal.Read.val_main_v1_eq _ _), (h 0).2⟩) (Cert.ReferenceIdeal.Value.run (F := Ideal) m' g')

theorem claim : Cert.Claim :=
  ⟨Cert.Kernel.Gen.facts, Cert.KernelIdeal.Gen.facts, Cert.ReferenceIdeal.Gen.facts, frame_kernel, frame_ideal, frame_reference,
    trivial, algebraic⟩

end Cert.Proof

end
